-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S3136x64 : Shape := ⟨2, ![3136, 64]⟩
abbrev S65536x64 : Shape := ⟨2, ![65536, 64]⟩
abbrev S_ : Shape := ⟨0, ![]⟩

class Facts : Prop where
  bcast_S_S3136x64 : S_.BroadcastsInDim S3136x64 (![] : Fin 0 → Fin S3136x64.rank)
  reducesTo_S3136x64_S_d0_1 : S3136x64.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_

variable [Facts]

def fn {F : FTy → Type} [FloatOps F] (main_arg0 : FVec F S3136x64 .f32) (main_arg1 : FVec F S65536x64 .f32) : IVec S_ 1 :=
  let main_v0 : FVec F S3136x64 .f32 := Host.absf main_arg0
  let main_cst : FVec F S_ .f32 := constant S_ .f32 0x7F800000#32
  let main_v1 : FVec F S3136x64 .f32 := broadcastInDim S3136x64 ![] bcast_S_S3136x64 main_cst
  let main_v2 : IVec S3136x64 1 := cmpf .olt main_v0 main_v1
  let main_c : IVec S_ 1 := constantI S_ 1 1#1
  let main_v3 : IVec S_ 1 := (fun x v => Host.reduce IntOp.andi x v reducesTo_S3136x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  main_v8
-- ==== Pre_finite2.lean ====
abbrev S56x56 : Shape := ⟨2, ![56, 56]⟩
abbrev S224x56 : Shape := ⟨2, ![224, 56]⟩
abbrev S1x1 : Shape := ⟨2, ![1, 1]⟩
abbrev S1x64 : Shape := ⟨2, ![1, 64]⟩
abbrev S65536x64 : Shape := ⟨2, ![65536, 64]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_

variable [Facts]

def fn {F : FTy → Type} [FloatOps F] (main_arg0 : FVec F S56x56 .f32) (main_arg1 : FVec F S224x56 .f32) (main_arg2 : FVec F S1x1 .f32) (main_arg3 : FVec F S1x64 .f32) (main_arg4 : FVec F S65536x64 .f32) : IVec S_ 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S65536x64 .f32 := Host.absf main_arg4
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  main_v8
-- ==== Kernel.lean ====
abbrev S3136x64 : Shape := ⟨2, ![3136, 64]⟩
abbrev S65536x64 : Shape := ⟨2, ![65536, 64]⟩
abbrev S_ : Shape := ⟨0, ![]⟩
abbrev S3136x1 : Shape := ⟨2, ![3136, 1]⟩
abbrev S1x1 : Shape := ⟨2, ![1, 1]⟩
abbrev S1x64 : Shape := ⟨2, ![1, 64]⟩
abbrev S16384x64 : Shape := ⟨2, ![16384, 64]⟩
abbrev S3136x128 : Shape := ⟨2, ![3136, 128]⟩
abbrev S1x16384 : Shape := ⟨2, ![1, 16384]⟩
abbrev S512x64 : Shape := ⟨2, ![512, 64]⟩
abbrev S3136x512 : Shape := ⟨2, ![3136, 512]⟩
abbrev S1x128 : Shape := ⟨2, ![1, 128]⟩
abbrev S3136 : Shape := ⟨1, ![3136]⟩
abbrev S1x3136x1 : Shape := ⟨3, ![1, 3136, 1]⟩
abbrev S1 : Shape := ⟨1, ![1]⟩
abbrev S1x1x1 : Shape := ⟨3, ![1, 1, 1]⟩

abbrev nBuf : Space → Nat
  | .hbm => 8
  | .vmem => 7
  | .smem => 0
  | _ => 0

abbrev bufTy : (tb : Table) → Fin (tcTables nBuf tb) → BufTy
  | .hbm, ⟨0, _⟩ => ⟨S3136x64, .f32⟩
  | .hbm, ⟨1, _⟩ => ⟨S65536x64, .f32⟩
  | .hbm, ⟨2, _⟩ => ⟨S_, .f32⟩
  | .hbm, ⟨3, _⟩ => ⟨S3136x64, .f32⟩
  | .hbm, ⟨4, _⟩ => ⟨S3136x64, .f32⟩
  | .hbm, ⟨5, _⟩ => ⟨S3136x1, .f32⟩
  | .hbm, ⟨6, _⟩ => ⟨S1x1, .f32⟩
  | .hbm, ⟨7, _⟩ => ⟨S1x64, .f32⟩
  | .local _ .vmem, ⟨0, _⟩ => ⟨S3136x64, .f32⟩
  | .local _ .vmem, ⟨1, _⟩ => ⟨S16384x64, .f32⟩
  | .local _ .vmem, ⟨2, _⟩ => ⟨S16384x64, .f32⟩
  | .local _ .vmem, ⟨3, _⟩ => ⟨S3136x1, .f32⟩
  | .local _ .vmem, ⟨4, _⟩ => ⟨S1x1, .f32⟩
  | .local _ .vmem, ⟨5, _⟩ => ⟨S1x64, .f32⟩
  | .local _ .vmem, ⟨6, _⟩ => ⟨S3136x128, .f32⟩
  | _, _ => ⟨S3136x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v715 : BitVec 1 := Scalar.cmpi .eq arg0 c3_i32
  let v716 : BitVec 32 := Scalar.extui v715
  let c0_i32_39 : BitVec 32 := 0#32
  let v717 : BitVec 1 := Scalar.cmpi .ne v716 c0_i32_39
  v717

def k0_off1 (v742 : BitVec 32) : Fin 2 → Nat :=
  let c3135_i32 : BitVec 32 := 3135#32
  let c0_i32_50 : BitVec 32 := 0#32
  let v743 : BitVec 32 := Scalar.maxsi c0_i32_50 v742
  let v744 : BitVec 32 := Scalar.minsi c3135_i32 v743
  let v747 : Index := Scalar.indexCast v744
  let c0_53 : Index := 0#32
  ![v747.toNat, 0]

def k0_chk1 (i : grid0.Coords) (v742 : BitVec 32) : Prop :=
  (∀ (k0_h3 : k0_cond3 i = 1#1), ∀ a, (k0_off1 v742) a + S1x64.size a ≤ S3136x64.size a)
theorem k0_off1_inb : ∀ (i : grid0.Coords) (v742 : BitVec 32) (k0_hw1 : k0_chk1 i v742), ∀ (k0_h3 : k0_cond3 i = 1#1), ∀ a, (k0_off1 v742) a + S1x64.size a ≤ S3136x64.size a := fun i v742 k0_hw1 k0_h3 => k0_hw1 k0_h3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3136x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3136x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S3136x64 : Shape := ⟨2, ![3136, 64]⟩
abbrev S65536x64 : Shape := ⟨2, ![65536, 64]⟩
abbrev S_ : Shape := ⟨0, ![]⟩
abbrev S3136 : Shape := ⟨1, ![3136]⟩
abbrev S3136x1 : Shape := ⟨2, ![3136, 1]⟩
abbrev S65536 : Shape := ⟨1, ![65536]⟩
abbrev S1x65536 : Shape := ⟨2, ![1, 65536]⟩
abbrev S3136x65536 : Shape := ⟨2, ![3136, 65536]⟩
abbrev S64x65536 : Shape := ⟨2, ![64, 65536]⟩
abbrev S1x1 : Shape := ⟨2, ![1, 1]⟩
abbrev S1x64 : Shape := ⟨2, ![1, 64]⟩
abbrev S64 : Shape := ⟨1, ![64]⟩

abbrev nBuf : Space → Nat
  | .hbm => 55
  | .vmem => 0
  | .smem => 0
  | _ => 0

abbrev bufTy : (tb : Table) → Fin (tcTables nBuf tb) → BufTy
  | .hbm, ⟨0, _⟩ => ⟨S3136x64, .f32⟩
  | .hbm, ⟨1, _⟩ => ⟨S65536x64, .f32⟩
  | .hbm, ⟨2, _⟩ => ⟨S3136x64, .f32⟩
  | .hbm, ⟨3, _⟩ => ⟨S_, .f32⟩
  | .hbm, ⟨4, _⟩ => ⟨S3136, .f32⟩
  | .hbm, ⟨5, _⟩ => ⟨S3136x1, .f32⟩
  | .hbm, ⟨6, _⟩ => ⟨S65536x64, .f32⟩
  | .hbm, ⟨7, _⟩ => ⟨S_, .f32⟩
  | .hbm, ⟨8, _⟩ => ⟨S65536, .f32⟩
  | .hbm, ⟨9, _⟩ => ⟨S1x65536, .f32⟩
  | .hbm, ⟨10, _⟩ => ⟨S3136x65536, .f32⟩
  | .hbm, ⟨11, _⟩ => ⟨S3136x65536, .f32⟩
  | .hbm, ⟨12, _⟩ => ⟨S3136x65536, .f32⟩
  | .hbm, ⟨13, _⟩ => ⟨S64x65536, .f32⟩
  | .hbm, ⟨14, _⟩ => ⟨S3136x65536, .f32⟩
  | .hbm, ⟨15, _⟩ => ⟨S_, .f32⟩
  | .hbm, ⟨16, _⟩ => ⟨S3136x65536, .f32⟩
  | .hbm, ⟨17, _⟩ => ⟨S3136x65536, .f32⟩
  | .hbm, ⟨18, _⟩ => ⟨S3136x65536, .f32⟩
  | .hbm, ⟨19, _⟩ => ⟨S_, .f32⟩
  | .hbm, ⟨20, _⟩ => ⟨S3136x65536, .f32⟩
  | .hbm, ⟨21, _⟩ => ⟨S3136x65536, .f32⟩
  | .hbm, ⟨22, _⟩ => ⟨S_, .f32⟩
  | .hbm, ⟨23, _⟩ => ⟨S3136, .f32⟩
  | .hbm, ⟨24, _⟩ => ⟨S_, .f32⟩
  | .hbm, ⟨25, _⟩ => ⟨S_, .f32⟩
  | .hbm, ⟨26, _⟩ => ⟨S3136, .f32⟩
  | .hbm, ⟨27, _⟩ => ⟨S3136, .i1⟩
  | .hbm, ⟨28, _⟩ => ⟨S3136, .i32⟩
  | .hbm, ⟨29, _⟩ => ⟨S_, .i32⟩
  | .hbm, ⟨30, _⟩ => ⟨S_, .i32⟩
  | .hbm, ⟨31, _⟩ => ⟨S3136, .i32⟩
  | .hbm, ⟨32, _⟩ => ⟨S3136, .i32⟩
  | .hbm, ⟨33, _⟩ => ⟨S_, .i32⟩
  | .hbm, ⟨34, _⟩ => ⟨S_, .i32⟩
  | .hbm, ⟨35, _⟩ => ⟨S3136x1, .f32⟩
  | .hbm, ⟨36, _⟩ => ⟨S_, .f32⟩
  | .hbm, ⟨37, _⟩ => ⟨S_, .f32⟩
  | .hbm, ⟨38, _⟩ => ⟨S1x1, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x64, .f32⟩
  | .hbm, ⟨53, _⟩ => ⟨S64, .f32⟩
  | .hbm, ⟨54, _⟩ => ⟨S1x64, .f32⟩
  | _, _ => ⟨S3136x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_c_10 : Ref sig .tc := ⟨.hbm, 45, rfl⟩
abbrev main_v29 : Ref sig .tc := ⟨.hbm, 46, rfl⟩
abbrev main_c_11 : Ref sig .tc := ⟨.hbm, 47, rfl⟩
abbrev main_c_12 : Ref sig .tc := ⟨.hbm, 48, rfl⟩
abbrev main_v30 : Ref sig .tc := ⟨.hbm, 49, rfl⟩
abbrev main_c_13 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel2.lean ====
abbrev S56x56 : Shape := ⟨2, ![56, 56]⟩
abbrev S224x56 : Shape := ⟨2, ![224, 56]⟩
abbrev S1x1 : Shape := ⟨2, ![1, 1]⟩
abbrev S1x64 : Shape := ⟨2, ![1, 64]⟩
abbrev S65536x64 : Shape := ⟨2, ![65536, 64]⟩
abbrev S224x224 : Shape := ⟨2, ![224, 224]⟩
abbrev S16384x64 : Shape := ⟨2, ![16384, 64]⟩
abbrev S4x16384 : Shape := ⟨2, ![4, 16384]⟩
abbrev S4x64 : Shape := ⟨2, ![4, 64]⟩
abbrev S4x1 : Shape := ⟨2, ![4, 1]⟩
abbrev S1x16384 : Shape := ⟨2, ![1, 16384]⟩
abbrev S1 : Shape := ⟨1, ![1]⟩
abbrev S1x1x16384 : Shape := ⟨3, ![1, 1, 16384]⟩
abbrev S1x1x1 : Shape := ⟨3, ![1, 1, 1]⟩
abbrev S1x4x1 : Shape := ⟨3, ![1, 4, 1]⟩
abbrev S1x4x16384 : Shape := ⟨3, ![1, 4, 16384]⟩

abbrev nBuf : Space → Nat
  | .hbm => 7
  | .vmem => 13
  | .smem => 0
  | _ => 0

abbrev bufTy : (tb : Table) → Fin (tcTables nBuf tb) → BufTy
  | .hbm, ⟨0, _⟩ => ⟨S56x56, .f32⟩
  | .hbm, ⟨1, _⟩ => ⟨S224x56, .f32⟩
  | .hbm, ⟨2, _⟩ => ⟨S1x1, .f32⟩
  | .hbm, ⟨3, _⟩ => ⟨S1x64, .f32⟩
  | .hbm, ⟨4, _⟩ => ⟨S65536x64, .f32⟩
  | .hbm, ⟨5, _⟩ => ⟨S1x1, .f32⟩
  | .hbm, ⟨6, _⟩ => ⟨S224x224, .f32⟩
  | .local _ .vmem, ⟨0, _⟩ => ⟨S56x56, .f32⟩
  | .local _ .vmem, ⟨1, _⟩ => ⟨S224x56, .f32⟩
  | .local _ .vmem, ⟨2, _⟩ => ⟨S1x1, .f32⟩
  | .local _ .vmem, ⟨3, _⟩ => ⟨S1x64, .f32⟩
  | .local _ .vmem, ⟨4, _⟩ => ⟨S16384x64, .f32⟩
  | .local _ .vmem, ⟨5, _⟩ => ⟨S16384x64, .f32⟩
  | .local _ .vmem, ⟨6, _⟩ => ⟨S1x1, .f32⟩
  | .local _ .vmem, ⟨7, _⟩ => ⟨S224x224, .f32⟩
  | .local _ .vmem, ⟨8, _⟩ => ⟨S4x16384, .f32⟩
  | .local _ .vmem, ⟨9, _⟩ => ⟨S4x16384, .f32⟩
  | .local _ .vmem, ⟨10, _⟩ => ⟨S4x64, .f32⟩
  | .local _ .vmem, ⟨11, _⟩ => ⟨S4x1, .f32⟩
  | .local _ .vmem, ⟨12, _⟩ => ⟨S1x64, .f32⟩
  | _, _ => ⟨S56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v8 : BitVec 1 := Scalar.cmpi .slt arg0 c4_i32
  let v9 : BitVec 32 := Scalar.extui v8
  let c0_i32_3 : BitVec 32 := 0#32
  let v10 : BitVec 1 := Scalar.cmpi .ne v9 c0_i32_3
  v10

def k0_off1 (i : grid0.Coords) : Fin 2 → Nat :=
  let arg0 : BitVec 32 := BitVec.ofNat 32 (i 0).val
  let v26 : Index := Scalar.indexCast arg0
  let c0_12 : Index := 0#32
  ![v26.toNat, 0]
def k0_off2 (i : grid0.Coords) : Fin 2 → Nat :=
  let arg0 : BitVec 32 := BitVec.ofNat 32 (i 0).val
  let v45 : Index := Scalar.indexCast arg0
  let c0_16 : Index := 0#32
  ![v45.toNat, 0]
def k0_off3 (v41 : BitVec 32) : Fin 2 → Nat :=
  let c16383_i32 : BitVec 32 := 16383#32
  let c0_i32_15 : BitVec 32 := 0#32
  let v42 : BitVec 32 := Scalar.maxsi c0_i32_15 v41
  let v43 : BitVec 32 := Scalar.minsi c16383_i32 v42
  let v49 : Index := Scalar.indexCast v43
  let c0_17 : Index := 0#32
  ![v49.toNat, 0]

def k0_chk1 (i : grid0.Coords) (v41 : BitVec 32) : Prop :=
  (∀ (k0_h2 : k0_cond2 i = 1#1), ∀ a, (k0_off3 v41) a + S1x64.size a ≤ S16384x64.size a)
theorem k0_off3_inb : ∀ (i : grid0.Coords) (v41 : BitVec 32) (k0_hw1 : k0_chk1 i v41), ∀ (k0_h2 : k0_cond2 i = 1#1), ∀ a, (k0_off3 v41) a + S1x64.size a ≤ S16384x64.size a := fun i v41 k0_hw1 k0_h2 => k0_hw1 k0_h2

def k0_off4 (i : grid0.Coords) : Fin 2 → Nat :=
  let arg0 : BitVec 32 := BitVec.ofNat 32 (i 0).val
  let v51 : Index := Scalar.indexCast arg0
  let c0_18 : Index := 0#32
  ![v51.toNat, 0]
def k0_cond3 (i : grid0.Coords) : BitVec 1 :=
  let arg0 : BitVec 32 := BitVec.ofNat 32 (i 0).val
  let c3_i32 : BitVec 32 := 3#32
  let v55 : BitVec 1 := Scalar.cmpi .eq arg0 c3_i32
  let v56 : BitVec 32 := Scalar.extui v55
  let c0_i32_19 : BitVec 32 := 0#32
  let v57 : BitVec 1 := Scalar.cmpi .ne v56 c0_i32_19
  v57

def k0_off5 (v71 : BitVec 32) : Fin 2 → Nat :=
  let c3_i32_26 : BitVec 32 := 3#32
  let c0_i32_25 : BitVec 32 := 0#32
  let v72 : BitVec 32 := Scalar.maxsi c0_i32_25 v71
  let v73 : BitVec 32 := Scalar.minsi c3_i32_26 v72
  let v74 : Index := Scalar.indexCast v73
  let c0_27 : Index := 0#32
  ![v74.toNat, 0]

def k0_chk2 (i : grid0.Coords) (v71 : BitVec 32) : Prop :=
  (∀ (k0_h2 : k0_cond2 i = 1#1), ∀ (k0_h3 : k0_cond3 i = 1#1), ∀ a, (k0_off5 v71) a + S1x64.size a ≤ S4x64.size a)
theorem k0_off5_inb : ∀ (i : grid0.Coords) (v71 : BitVec 32) (k0_hw2 : k0_chk2 i v71), ∀ (k0_h2 : k0_cond2 i = 1#1), ∀ (k0_h3 : k0_cond3 i = 1#1), ∀ a, (k0_off5 v71) a + S1x64.size a ≤ S4x64.size a := fun i v71 k0_hw2 k0_h2 k0_h3 => k0_hw2 k0_h2 k0_h3

def k0_cond4 (i : grid0.Coords) : BitVec 1 :=
  let arg0 : BitVec 32 := BitVec.ofNat 32 (i 0).val
  let c4_i32_4 : BitVec 32 := 4#32
  let v11 : BitVec 1 := Scalar.cmpi .sge arg0 c4_i32_4
  let v12 : BitVec 32 := Scalar.extui v11
  let c0_i32_5 : BitVec 32 := 0#32
  let v13 : BitVec 1 := Scalar.cmpi .ne v12 c0_i32_5
  v13

def k0_off6 (i : grid0.Coords) : Fin 2 → Nat :=
  let arg0 : BitVec 32 := BitVec.ofNat 32 (i 0).val
  let c4_i32_6 : BitVec 32 := 4#32
  let v14 : BitVec 32 := Scalar.subi arg0 c4_i32_6
  let v27 : Index := Scalar.indexCast v14
  let c0_13 : Index := 0#32
  ![v27.toNat, 0]
def k0_cond5 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_14 : BitVec 32 := 0#32
  let v33 : BitVec 1 := Scalar.cmpi .ne v32 c0_i32_14
  v33

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S56x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S224x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S56x56 : Shape := ⟨2, ![56, 56]⟩
abbrev S224x56 : Shape := ⟨2, ![224, 56]⟩
abbrev S1x1 : Shape := ⟨2, ![1, 1]⟩
abbrev S1x64 : Shape := ⟨2, ![1, 64]⟩
abbrev S65536x64 : Shape := ⟨2, ![65536, 64]⟩
abbrev S_ : Shape := ⟨0, ![]⟩
abbrev S1 : Shape := ⟨1, ![1]⟩
abbrev S65536 : Shape := ⟨1, ![65536]⟩
abbrev S1x65536 : Shape := ⟨2, ![1, 65536]⟩
abbrev S64x65536 : Shape := ⟨2, ![64, 65536]⟩
abbrev S64 : Shape := ⟨1, ![64]⟩
abbrev S1x3 : Shape := ⟨2, ![1, 3]⟩
abbrev S1x2 : Shape := ⟨2, ![1, 2]⟩
abbrev S2 : Shape := ⟨1, ![2]⟩
abbrev S2x1 : Shape := ⟨2, ![2, 1]⟩
abbrev S2x64 : Shape := ⟨2, ![2, 64]⟩
abbrev S56x224 : Shape := ⟨2, ![56, 224]⟩
abbrev S224x224 : Shape := ⟨2, ![224, 224]⟩

abbrev nBuf : Space → Nat
  | .hbm => 113
  | .vmem => 0
  | .smem => 0
  | _ => 0

abbrev bufTy : (tb : Table) → Fin (tcTables nBuf tb) → BufTy
  | .hbm, ⟨0, _⟩ => ⟨S56x56, .f32⟩
  | .hbm, ⟨1, _⟩ => ⟨S224x56, .f32⟩
  | .hbm, ⟨2, _⟩ => ⟨S1x1, .f32⟩
  | .hbm, ⟨3, _⟩ => ⟨S1x64, .f32⟩
  | .hbm, ⟨4, _⟩ => ⟨S65536x64, .f32⟩
  | .hbm, ⟨5, _⟩ => ⟨S1x64, .f32⟩
  | .hbm, ⟨6, _⟩ => ⟨S_, .f32⟩
  | .hbm, ⟨7, _⟩ => ⟨S1, .f32⟩
  | .hbm, ⟨8, _⟩ => ⟨S1x1, .f32⟩
  | .hbm, ⟨9, _⟩ => ⟨S65536x64, .f32⟩
  | .hbm, ⟨10, _⟩ => ⟨S_, .f32⟩
  | .hbm, ⟨11, _⟩ => ⟨S65536, .f32⟩
  | .hbm, ⟨12, _⟩ => ⟨S1x65536, .f32⟩
  | .hbm, ⟨13, _⟩ => ⟨S1x65536, .f32⟩
  | .hbm, ⟨14, _⟩ => ⟨S1x65536, .f32⟩
  | .hbm, ⟨15, _⟩ => ⟨S64x65536, .f32⟩
  | .hbm, ⟨16, _⟩ => ⟨S1x65536, .f32⟩
  | .hbm, ⟨17, _⟩ => ⟨S_, .f32⟩
  | .hbm, ⟨18, _⟩ => ⟨S1x65536, .f32⟩
  | .hbm, ⟨19, _⟩ => ⟨S1x65536, .f32⟩
  | .hbm, ⟨20, _⟩ => ⟨S1x65536, .f32⟩
  | .hbm, ⟨21, _⟩ => ⟨S_, .f32⟩
  | .hbm, ⟨22, _⟩ => ⟨S1x65536, .f32⟩
  | .hbm, ⟨23, _⟩ => ⟨S1x65536, .f32⟩
  | .hbm, ⟨24, _⟩ => ⟨S1x65536, .f32⟩
  | .hbm, ⟨25, _⟩ => ⟨S65536, .f32⟩
  | .hbm, ⟨26, _⟩ => ⟨S_, .f32⟩
  | .hbm, ⟨27, _⟩ => ⟨S_, .f32⟩
  | .hbm, ⟨28, _⟩ => ⟨S65536, .f32⟩
  | .hbm, ⟨29, _⟩ => ⟨S65536, .i1⟩
  | .hbm, ⟨30, _⟩ => ⟨S65536, .i32⟩
  | .hbm, ⟨31, _⟩ => ⟨S_, .i32⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S_, .f32⟩
  | .hbm, ⟨55, _⟩ => ⟨S1, .f32⟩
  | .hbm, ⟨56, _⟩ => ⟨S1x1, .f32⟩
  | .hbm, ⟨57, _⟩ => ⟨S65536x64, .f32⟩
  | .hbm, ⟨58, _⟩ => ⟨S_, .f32⟩
  | .hbm, ⟨59, _⟩ => ⟨S65536, .f32⟩
  | .hbm, ⟨60, _⟩ => ⟨S1x65536, .f32⟩
  | .hbm, ⟨61, _⟩ => ⟨S1x65536, .f32⟩
  | .hbm, ⟨62, _⟩ => ⟨S1x65536, .f32⟩
  | .hbm, ⟨63, _⟩ => ⟨S64x65536, .f32⟩
  | .hbm, ⟨64, _⟩ => ⟨S1x65536, .f32⟩
  | .hbm, ⟨65, _⟩ => ⟨S_, .f32⟩
  | .hbm, ⟨66, _⟩ => ⟨S1x65536, .f32⟩
  | .hbm, ⟨67, _⟩ => ⟨S1x65536, .f32⟩
  | .hbm, ⟨68, _⟩ => ⟨S1x65536, .f32⟩
  | .hbm, ⟨69, _⟩ => ⟨S_, .f32⟩
  | .hbm, ⟨70, _⟩ => ⟨S1x65536, .f32⟩
  | .hbm, ⟨71, _⟩ => ⟨S1x65536, .f32⟩
  | .hbm, ⟨72, _⟩ => ⟨S1x65536, .f32⟩
  | .hbm, ⟨73, _⟩ => ⟨S1x65536, .f32⟩
  | .hbm, ⟨74, _⟩ => ⟨S1x3, .f32⟩
  | .hbm, ⟨75, _⟩ => ⟨S1x3, .i32⟩
  | .hbm, ⟨76, _⟩ => ⟨S1x2, .i32⟩
  | .hbm, ⟨77, _⟩ => ⟨S2, .i32⟩
  | .hbm, ⟨78, _⟩ => ⟨S_, .i32⟩
  | .hbm, ⟨79, _⟩ => ⟨S2, .i32⟩
  | .hbm, ⟨80, _⟩ => ⟨S2, .i1⟩
  | .hbm, ⟨81, _⟩ => ⟨S_, .i32⟩
  | .hbm, ⟨82, _⟩ => ⟨S2, .i32⟩
  | .hbm, ⟨83, _⟩ => ⟨S2, .i32⟩
  | .hbm, ⟨84, _⟩ => ⟨S2, .i32⟩
  | .hbm, ⟨85, _⟩ => ⟨S2x1, .i32⟩
  | .hbm, ⟨86, _⟩ => ⟨S2x64, .f32⟩
  | .hbm, ⟨87, _⟩ => ⟨S2x64, .f32⟩
  | .hbm, ⟨88, _⟩ => ⟨S2x64, .f32⟩
  | .hbm, ⟨89, _⟩ => ⟨S2x64, .f32⟩
  | .hbm, ⟨90, _⟩ => ⟨S_, .f32⟩
  | .hbm, ⟨91, _⟩ => ⟨S2, .f32⟩
  | .hbm, ⟨92, _⟩ => ⟨S2, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S2, .f32⟩
  | .hbm, ⟨100, _⟩ => ⟨S2, .f32⟩
  | .hbm, ⟨101, _⟩ => ⟨S2, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S1x1, .f32⟩
  | .hbm, ⟨109, _⟩ => ⟨S56x56, .f32⟩
  | .hbm, ⟨110, _⟩ => ⟨S224x56, .f32⟩
  | .hbm, ⟨111, _⟩ => ⟨S56x224, .f32⟩
  | .hbm, ⟨112, _⟩ => ⟨S224x224, .f32⟩
  | _, _ => ⟨S56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_c_8 : Ref sig .tc := ⟨.hbm, 43, rfl⟩
abbrev main_v26 : Ref sig .tc := ⟨.hbm, 44, rfl⟩
abbrev main_c_9 : Ref sig .tc := ⟨.hbm, 45, rfl⟩
abbrev main_c_10 : Ref sig .tc := ⟨.hbm, 46, rfl⟩
abbrev main_v27 : Ref sig .tc := ⟨.hbm, 47, rfl⟩
abbrev main_c_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_14 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_values : Ref sig .tc := ⟨.hbm, 74, rfl⟩
abbrev main_indices : Ref sig .tc := ⟨.hbm, 75, rfl⟩
abbrev main_v49 : Ref sig .tc := ⟨.hbm, 76, rfl⟩
abbrev main_v50 : Ref sig .tc := ⟨.hbm, 77, rfl⟩
abbrev main_c_16 : Ref sig .tc := ⟨.hbm, 78, rfl⟩
abbrev main_v51 : Ref sig .tc := ⟨.hbm, 79, rfl⟩
abbrev main_v52 : Ref sig .tc := ⟨.hbm, 80, rfl⟩
abbrev main_c_17 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call1_v0 : Ref sig .tc := ⟨.hbm, 89, rfl⟩
abbrev main_call1_cst : Ref sig .tc := ⟨.hbm, 90, rfl⟩
abbrev main_call1_v1 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_18 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== Proof.Block.lean ====
/-
  What one grid point of the first kernel makes of its two blocks: `blockMin a b` is the 3136 x 128 array whose
  entry (i, l) is the smallest, over the 128 groups c of 128 rows of the library block, of
  `sum a_i * b_j + sum b_j * b_j` at row j = 128 c + l.
-/
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic Cert.KernelIdeal Cert.KernelIdeal.Gen

section
variable {F : FTy → Type} [FloatOps F]

/-- The minimum that a point takes over its library block, lane by lane. -/
noncomputable def blockMin (a : Vec F S3136x64 .f32) (b : Vec F S16384x64 .f32) : FVec F S3136x128 .f32 :=
  let v1 := k0_pay11 a
  let v5 := k0_pay12 b
  let v26 := k0_pay13 a b
  let v47 := k0_pay14 a b
  let v49 := k0_pay15 a b
  let v68 := k0_pay16 v5 v49
  let v89 := k0_pay17 v1 b v5
  let v95 := k0_pay19 v1 b v5
  let v99 := k0_pay20 v1 b v5
  let v103 := k0_pay21 v1 b v5
  let v107 := k0_pay22 v1 b v5
  let v110 := k0_pay23 v95 v99 v103 v107
  let v131 := k0_pay24 v1 b v5
  let v152 := k0_pay25 v1 b v5
  let v154 := k0_pay26 v1 b
  let v158 := k0_pay27 v1 b v5
  let v162 := k0_pay28 v1 b v5
  let v163 := k0_pay29 v1 b
  let v164 := k0_pay30 v5
  let v173 := k0_pay31 v5 v154 v158 v162 v163 v164
  let v194 := k0_pay32 v1 b v5
  let v215 := k0_pay33 v1 b v5
  let v217 := k0_pay34 v1 b
  let v221 := k0_pay35 v1 b v5
  let v236 := k0_pay36 v5 v217 v221
  let v257 := k0_pay37 v1 b v5
  let v278 := k0_pay38 v1 b v5
  let v279 := k0_pay39 b
  let v299 := k0_pay40 v1 v5 v279
  let v320 := k0_pay41 v1 b v5
  let v326 := k0_pay43 v1 b v5
  let v330 := k0_pay44 v1 b v5
  let v334 := k0_pay45 v1 b v5
  let v335 := k0_pay46 v1 b
  let v336 := k0_pay47 v5
  let v341 := k0_pay48 v326 v330 v334 v335 v336
  let v362 := k0_pay49 v1 b v5
  let v383 := k0_pay50 v1 b v5
  let v385 := k0_pay51 v1 b
  let v389 := k0_pay52 v1 b v5
  let v393 := k0_pay53 v1 b v5
  let v404 := k0_pay54 v5 v385 v389 v393
  let v425 := k0_pay55 v1 b v5
  let v446 := k0_pay56 v1 b v5
  let v448 := k0_pay57 v1 b
  let v449 := k0_pay58 v1 b
  let v450 := k0_pay59 v5
  let v467 := k0_pay60 v5 v448 v449 v450
  let v488 := k0_pay61 v1 b v5
  let v507 := k0_pay63 v1 b v5
  let v508 := k0_pay64 v1 b v5
  let v509 := k0_pay65 v507 v508
  let v530 := k0_pay66 v1 b v5
  let v551 := k0_pay67 v1 b v5
  let v553 := k0_pay68 v1 b
  let v557 := k0_pay69 v1 b v5
  let v561 := k0_pay70 v1 b v5
  let v565 := k0_pay71 v1 b v5
  let v572 := k0_pay72 v5 v553 v557 v561 v565
  let v593 := k0_pay73 v1 b v5
  let v614 := k0_pay74 v1 b v5
  let v616 := k0_pay75 v1 b
  let v620 := k0_pay76 v1 b v5
  let v621 := k0_pay77 v1 b
  let v622 := k0_pay78 v5
  let v635 := k0_pay79 v5 v616 v620 v621 v622
  let v656 := k0_pay80 v1 b v5
  let v677 := k0_pay81 v1 b v5
  let v678 := k0_pay82 v26 v47
  let v679 := k0_pay83 v68 v89
  let v680 := k0_pay84 v110 v131
  let v704 := k0_pay1 v362 v383 v404 v425 v446 v467 v488 v509
  let v706 := k0_pay2 v152 v173 v194 v215 v236 v257 v278 v299 v320 v341 v678 v679 v680
  let v708 := k0_pay3 v530 v551 v572 v593 v614 v635 v656 v677 v704 v706
  v708

end

/-- What the block's row `j` contributes to patch row `i`: the product of the two rows and the square of the second. -/
def term (a : FVec Ideal S3136x64 .f32) (b : FVec Ideal S16384x64 .f32) (i : Fin 3136) (j : Fin 16384) : EReal :=
  (∑ k : Fin 64, a (ix2 i k) * b (ix2 j k)) + ∑ k : Fin 64, b (ix2 j k) * b (ix2 j k)

/-- `term` at the `c`-th row of lane `l`. -/
def lane (a : FVec Ideal S3136x64 .f32) (b : FVec Ideal S16384x64 .f32) (i : Fin 3136) (l : Fin 128) (c : ℕ) : EReal :=
  term a b i ⟨(128 * c + l.val) % 16384, Nat.mod_lt _ (by decide)⟩

/-- The smallest of four successive values. -/
def min4 (g : ℕ → EReal) (n : ℕ) : EReal := min (min (g n) (g (n + 1))) (min (g (n + 2)) (g (n + 3)))

theorem lane_of {a : FVec Ideal S3136x64 .f32} {b : FVec Ideal S16384x64 .f32} {i : Fin 3136} {l : Fin 128} (c : ℕ) (hc : c < 128)
    {j j' : Fin 16384} (h : j.val = 128 * c + l.val) (h' : j'.val = 128 * c + l.val) :
    (∑ k : Fin 64, a (ix2 i k) * b (ix2 j k)) + ∑ k : Fin 64, b (ix2 j' k) * b (ix2 j' k) = lane a b i l c := by
  have hl := l.isLt
  have e : j = ⟨(128 * c + l.val) % 16384, Nat.mod_lt _ (by decide)⟩ := Fin.ext (by simp only [h]; omega)
  have e' : j' = ⟨(128 * c + l.val) % 16384, Nat.mod_lt _ (by decide)⟩ := Fin.ext (by simp only [h']; omega)
  unfold lane term
  rw [e, e']

section
variable (a : FVec Ideal S3136x64 .f32) (b : FVec Ideal S16384x64 .f32) (i : Fin 3136) (l : Fin 128)

theorem chunk_0 : k0_pay13 (F := Ideal) a b (ix2 i l) = min4 (lane a b i l) 0 := by
  pointwise [k0_pay13, k0_pay11, k0_pay12]
  refine congrArg₂ min (congrArg₂ min (lane_of 0 ?_ ?_ ?_) (lane_of 1 ?_ ?_ ?_)) (congrArg₂ min (lane_of 2 ?_ ?_ ?_) (lane_of 3 ?_ ?_ ?_)) <;> first | omega | rfl | (dsimp only; omega)

theorem chunk_1 : k0_pay14 (F := Ideal) a b (ix2 i l) = min4 (lane a b i l) 4 := by
  pointwise [k0_pay14, k0_pay11, k0_pay12]
  refine congrArg₂ min (congrArg₂ min (lane_of 4 ?_ ?_ ?_) (lane_of 5 ?_ ?_ ?_)) (congrArg₂ min (lane_of 6 ?_ ?_ ?_) (lane_of 7 ?_ ?_ ?_)) <;> first | omega | rfl | (dsimp only; omega)

theorem chunk_2 : k0_pay16 (F := Ideal) (k0_pay12 b) (k0_pay15 a b) (ix2 i l) = min4 (lane a b i l) 8 := by
  pointwise [k0_pay12, k0_pay15, k0_pay16, k0_pay11]
  refine congrArg₂ min (congrArg₂ min (lane_of 8 ?_ ?_ ?_) (lane_of 9 ?_ ?_ ?_)) (congrArg₂ min (lane_of 10 ?_ ?_ ?_) (lane_of 11 ?_ ?_ ?_)) <;> first | omega | rfl | (dsimp only; omega)

theorem chunk_3 : k0_pay17 (F := Ideal) (k0_pay11 a) b (k0_pay12 b) (ix2 i l) = min4 (lane a b i l) 12 := by
  pointwise [k0_pay11, k0_pay12, k0_pay17]
  refine congrArg₂ min (congrArg₂ min (lane_of 12 ?_ ?_ ?_) (lane_of 13 ?_ ?_ ?_)) (congrArg₂ min (lane_of 14 ?_ ?_ ?_) (lane_of 15 ?_ ?_ ?_)) <;> first | omega | rfl | (dsimp only; omega)

theorem chunk_4 : k0_pay23 (F := Ideal) (k0_pay19 (k0_pay11 a) b (k0_pay12 b)) (k0_pay20 (k0_pay11 a) b (k0_pay12 b)) (k0_pay21 (k0_pay11 a) b (k0_pay12 b)) (k0_pay22 (k0_pay11 a) b (k0_pay12 b)) (ix2 i l) = min4 (lane a b i l) 16 := by
  pointwise [k0_pay11, k0_pay12, k0_pay19, k0_pay20, k0_pay21, k0_pay22, k0_pay23, k0_pay18]
  refine congrArg₂ min (congrArg₂ min (lane_of 16 ?_ ?_ ?_) (lane_of 17 ?_ ?_ ?_)) (congrArg₂ min (lane_of 18 ?_ ?_ ?_) (lane_of 19 ?_ ?_ ?_)) <;> first | omega | rfl | (dsimp only; omega)

theorem chunk_5 : k0_pay24 (F := Ideal) (k0_pay11 a) b (k0_pay12 b) (ix2 i l) = min4 (lane a b i l) 20 := by
  pointwise [k0_pay11, k0_pay12, k0_pay24]
  refine congrArg₂ min (congrArg₂ min (lane_of 20 ?_ ?_ ?_) (lane_of 21 ?_ ?_ ?_)) (congrArg₂ min (lane_of 22 ?_ ?_ ?_) (lane_of 23 ?_ ?_ ?_)) <;> first | omega | rfl | (dsimp only; omega)

theorem chunk_6 : k0_pay25 (F := Ideal) (k0_pay11 a) b (k0_pay12 b) (ix2 i l) = min4 (lane a b i l) 24 := by
  pointwise [k0_pay11, k0_pay12, k0_pay25]
  refine congrArg₂ min (congrArg₂ min (lane_of 24 ?_ ?_ ?_) (lane_of 25 ?_ ?_ ?_)) (congrArg₂ min (lane_of 26 ?_ ?_ ?_) (lane_of 27 ?_ ?_ ?_)) <;> first | omega | rfl | (dsimp only; omega)

theorem chunk_7 : k0_pay31 (F := Ideal) (k0_pay12 b) (k0_pay26 (k0_pay11 a) b) (k0_pay27 (k0_pay11 a) b (k0_pay12 b)) (k0_pay28 (k0_pay11 a) b (k0_pay12 b)) (k0_pay29 (k0_pay11 a) b) (k0_pay30 (k0_pay12 b)) (ix2 i l) = min4 (lane a b i l) 28 := by
  pointwise [k0_pay11, k0_pay12, k0_pay26, k0_pay27, k0_pay28, k0_pay29, k0_pay30, k0_pay31]
  refine congrArg₂ min (congrArg₂ min (lane_of 28 ?_ ?_ ?_) (lane_of 29 ?_ ?_ ?_)) (congrArg₂ min (lane_of 30 ?_ ?_ ?_) (lane_of 31 ?_ ?_ ?_)) <;> first | omega | rfl | (dsimp only; omega)

theorem chunk_8 : k0_pay32 (F := Ideal) (k0_pay11 a) b (k0_pay12 b) (ix2 i l) = min4 (lane a b i l) 32 := by
  pointwise [k0_pay11, k0_pay12, k0_pay32]
  refine congrArg₂ min (congrArg₂ min (lane_of 32 ?_ ?_ ?_) (lane_of 33 ?_ ?_ ?_)) (congrArg₂ min (lane_of 34 ?_ ?_ ?_) (lane_of 35 ?_ ?_ ?_)) <;> first | omega | rfl | (dsimp only; omega)

theorem chunk_9 : k0_pay33 (F := Ideal) (k0_pay11 a) b (k0_pay12 b) (ix2 i l) = min4 (lane a b i l) 36 := by
  pointwise [k0_pay11, k0_pay12, k0_pay33]
  refine congrArg₂ min (congrArg₂ min (lane_of 36 ?_ ?_ ?_) (lane_of 37 ?_ ?_ ?_)) (congrArg₂ min (lane_of 38 ?_ ?_ ?_) (lane_of 39 ?_ ?_ ?_)) <;> first | omega | rfl | (dsimp only; omega)

theorem chunk_10 : k0_pay36 (F := Ideal) (k0_pay12 b) (k0_pay34 (k0_pay11 a) b) (k0_pay35 (k0_pay11 a) b (k0_pay12 b)) (ix2 i l) = min4 (lane a b i l) 40 := by
  pointwise [k0_pay11, k0_pay12, k0_pay34, k0_pay35, k0_pay36]
  refine congrArg₂ min (congrArg₂ min (lane_of 40 ?_ ?_ ?_) (lane_of 41 ?_ ?_ ?_)) (congrArg₂ min (lane_of 42 ?_ ?_ ?_) (lane_of 43 ?_ ?_ ?_)) <;> first | omega | rfl | (dsimp only; omega)

theorem chunk_11 : k0_pay37 (F := Ideal) (k0_pay11 a) b (k0_pay12 b) (ix2 i l) = min4 (lane a b i l) 44 := by
  pointwise [k0_pay11, k0_pay12, k0_pay37]
  refine congrArg₂ min (congrArg₂ min (lane_of 44 ?_ ?_ ?_) (lane_of 45 ?_ ?_ ?_)) (congrArg₂ min (lane_of 46 ?_ ?_ ?_) (lane_of 47 ?_ ?_ ?_)) <;> first | omega | rfl | (dsimp only; omega)

theorem chunk_12 : k0_pay38 (F := Ideal) (k0_pay11 a) b (k0_pay12 b) (ix2 i l) = min4 (lane a b i l) 48 := by
  pointwise [k0_pay11, k0_pay12, k0_pay38]
  refine congrArg₂ min (congrArg₂ min (lane_of 48 ?_ ?_ ?_) (lane_of 49 ?_ ?_ ?_)) (congrArg₂ min (lane_of 50 ?_ ?_ ?_) (lane_of 51 ?_ ?_ ?_)) <;> first | omega | rfl | (dsimp only; omega)

theorem chunk_13 : k0_pay40 (F := Ideal) (k0_pay11 a) (k0_pay12 b) (k0_pay39 b) (ix2 i l) = min4 (lane a b i l) 52 := by
  pointwise [k0_pay11, k0_pay12, k0_pay39, k0_pay40]
  refine congrArg₂ min (congrArg₂ min (lane_of 52 ?_ ?_ ?_) (lane_of 53 ?_ ?_ ?_)) (congrArg₂ min (lane_of 54 ?_ ?_ ?_) (lane_of 55 ?_ ?_ ?_)) <;> first | omega | rfl | (dsimp only; omega)

theorem chunk_14 : k0_pay41 (F := Ideal) (k0_pay11 a) b (k0_pay12 b) (ix2 i l) = min4 (lane a b i l) 56 := by
  pointwise [k0_pay11, k0_pay12, k0_pay41]
  refine congrArg₂ min (congrArg₂ min (lane_of 56 ?_ ?_ ?_) (lane_of 57 ?_ ?_ ?_)) (congrArg₂ min (lane_of 58 ?_ ?_ ?_) (lane_of 59 ?_ ?_ ?_)) <;> first | omega | rfl | (dsimp only; omega)

theorem chunk_15 : k0_pay48 (F := Ideal) (k0_pay43 (k0_pay11 a) b (k0_pay12 b)) (k0_pay44 (k0_pay11 a) b (k0_pay12 b)) (k0_pay45 (k0_pay11 a) b (k0_pay12 b)) (k0_pay46 (k0_pay11 a) b) (k0_pay47 (k0_pay12 b)) (ix2 i l) = min4 (lane a b i l) 60 := by
  pointwise [k0_pay11, k0_pay12, k0_pay43, k0_pay44, k0_pay45, k0_pay46, k0_pay47, k0_pay48, k0_pay42]
  refine congrArg₂ min (congrArg₂ min (lane_of 60 ?_ ?_ ?_) (lane_of 61 ?_ ?_ ?_)) (congrArg₂ min (lane_of 62 ?_ ?_ ?_) (lane_of 63 ?_ ?_ ?_)) <;> first | omega | rfl | (dsimp only; omega)

theorem chunk_16 : k0_pay49 (F := Ideal) (k0_pay11 a) b (k0_pay12 b) (ix2 i l) = min4 (lane a b i l) 64 := by
  pointwise [k0_pay11, k0_pay12, k0_pay49]
  refine congrArg₂ min (congrArg₂ min (lane_of 64 ?_ ?_ ?_) (lane_of 65 ?_ ?_ ?_)) (congrArg₂ min (lane_of 66 ?_ ?_ ?_) (lane_of 67 ?_ ?_ ?_)) <;> first | omega | rfl | (dsimp only; omega)

theorem chunk_17 : k0_pay50 (F := Ideal) (k0_pay11 a) b (k0_pay12 b) (ix2 i l) = min4 (lane a b i l) 68 := by
  pointwise [k0_pay11, k0_pay12, k0_pay50]
  refine congrArg₂ min (congrArg₂ min (lane_of 68 ?_ ?_ ?_) (lane_of 69 ?_ ?_ ?_)) (congrArg₂ min (lane_of 70 ?_ ?_ ?_) (lane_of 71 ?_ ?_ ?_)) <;> first | omega | rfl | (dsimp only; omega)

theorem chunk_18 : k0_pay54 (F := Ideal) (k0_pay12 b) (k0_pay51 (k0_pay11 a) b) (k0_pay52 (k0_pay11 a) b (k0_pay12 b)) (k0_pay53 (k0_pay11 a) b (k0_pay12 b)) (ix2 i l) = min4 (lane a b i l) 72 := by
  pointwise [k0_pay11, k0_pay12, k0_pay51, k0_pay52, k0_pay53, k0_pay54]
  refine congrArg₂ min (congrArg₂ min (lane_of 72 ?_ ?_ ?_) (lane_of 73 ?_ ?_ ?_)) (congrArg₂ min (lane_of 74 ?_ ?_ ?_) (lane_of 75 ?_ ?_ ?_)) <;> first | omega | rfl | (dsimp only; omega)

theorem chunk_19 : k0_pay55 (F := Ideal) (k0_pay11 a) b (k0_pay12 b) (ix2 i l) = min4 (lane a b i l) 76 := by
  pointwise [k0_pay11, k0_pay12, k0_pay55]
  refine congrArg₂ min (congrArg₂ min (lane_of 76 ?_ ?_ ?_) (lane_of 77 ?_ ?_ ?_)) (congrArg₂ min (lane_of 78 ?_ ?_ ?_) (lane_of 79 ?_ ?_ ?_)) <;> first | omega | rfl | (dsimp only; omega)

theorem chunk_20 : k0_pay56 (F := Ideal) (k0_pay11 a) b (k0_pay12 b) (ix2 i l) = min4 (lane a b i l) 80 := by
  pointwise [k0_pay11, k0_pay12, k0_pay56]
  refine congrArg₂ min (congrArg₂ min (lane_of 80 ?_ ?_ ?_) (lane_of 81 ?_ ?_ ?_)) (congrArg₂ min (lane_of 82 ?_ ?_ ?_) (lane_of 83 ?_ ?_ ?_)) <;> first | omega | rfl | (dsimp only; omega)

theorem chunk_21 : k0_pay60 (F := Ideal) (k0_pay12 b) (k0_pay57 (k0_pay11 a) b) (k0_pay58 (k0_pay11 a) b) (k0_pay59 (k0_pay12 b)) (ix2 i l) = min4 (lane a b i l) 84 := by
  pointwise [k0_pay11, k0_pay12, k0_pay57, k0_pay58, k0_pay59, k0_pay60]
  refine congrArg₂ min (congrArg₂ min (lane_of 84 ?_ ?_ ?_) (lane_of 85 ?_ ?_ ?_)) (congrArg₂ min (lane_of 86 ?_ ?_ ?_) (lane_of 87 ?_ ?_ ?_)) <;> first | omega | rfl | (dsimp only; omega)

theorem chunk_22 : k0_pay61 (F := Ideal) (k0_pay11 a) b (k0_pay12 b) (ix2 i l) = min4 (lane a b i l) 88 := by
  pointwise [k0_pay11, k0_pay12, k0_pay61]
  refine congrArg₂ min (congrArg₂ min (lane_of 88 ?_ ?_ ?_) (lane_of 89 ?_ ?_ ?_)) (congrArg₂ min (lane_of 90 ?_ ?_ ?_) (lane_of 91 ?_ ?_ ?_)) <;> first | omega | rfl | (dsimp only; omega)

theorem chunk_23 : k0_pay65 (F := Ideal) (k0_pay63 (k0_pay11 a) b (k0_pay12 b)) (k0_pay64 (k0_pay11 a) b (k0_pay12 b)) (ix2 i l) = min4 (lane a b i l) 92 := by
  pointwise [k0_pay11, k0_pay12, k0_pay63, k0_pay64, k0_pay65, k0_pay62]
  refine congrArg₂ min (congrArg₂ min (lane_of 92 ?_ ?_ ?_) (lane_of 93 ?_ ?_ ?_)) (congrArg₂ min (lane_of 94 ?_ ?_ ?_) (lane_of 95 ?_ ?_ ?_)) <;> first | omega | rfl | (dsimp only; omega)

theorem chunk_24 : k0_pay66 (F := Ideal) (k0_pay11 a) b (k0_pay12 b) (ix2 i l) = min4 (lane a b i l) 96 := by
  pointwise [k0_pay11, k0_pay12, k0_pay66]
  refine congrArg₂ min (congrArg₂ min (lane_of 96 ?_ ?_ ?_) (lane_of 97 ?_ ?_ ?_)) (congrArg₂ min (lane_of 98 ?_ ?_ ?_) (lane_of 99 ?_ ?_ ?_)) <;> first | omega | rfl | (dsimp only; omega)

theorem chunk_25 : k0_pay67 (F := Ideal) (k0_pay11 a) b (k0_pay12 b) (ix2 i l) = min4 (lane a b i l) 100 := by
  pointwise [k0_pay11, k0_pay12, k0_pay67]
  refine congrArg₂ min (congrArg₂ min (lane_of 100 ?_ ?_ ?_) (lane_of 101 ?_ ?_ ?_)) (congrArg₂ min (lane_of 102 ?_ ?_ ?_) (lane_of 103 ?_ ?_ ?_)) <;> first | omega | rfl | (dsimp only; omega)

theorem chunk_26 : k0_pay72 (F := Ideal) (k0_pay12 b) (k0_pay68 (k0_pay11 a) b) (k0_pay69 (k0_pay11 a) b (k0_pay12 b)) (k0_pay70 (k0_pay11 a) b (k0_pay12 b)) (k0_pay71 (k0_pay11 a) b (k0_pay12 b)) (ix2 i l) = min4 (lane a b i l) 104 := by
  pointwise [k0_pay11, k0_pay12, k0_pay68, k0_pay69, k0_pay70, k0_pay71, k0_pay72]
  refine congrArg₂ min (congrArg₂ min (lane_of 104 ?_ ?_ ?_) (lane_of 105 ?_ ?_ ?_)) (congrArg₂ min (lane_of 106 ?_ ?_ ?_) (lane_of 107 ?_ ?_ ?_)) <;> first | omega | rfl | (dsimp only; omega)

theorem chunk_27 : k0_pay73 (F := Ideal) (k0_pay11 a) b (k0_pay12 b) (ix2 i l) = min4 (lane a b i l) 108 := by
  pointwise [k0_pay11, k0_pay12, k0_pay73]
  refine congrArg₂ min (congrArg₂ min (lane_of 108 ?_ ?_ ?_) (lane_of 109 ?_ ?_ ?_)) (congrArg₂ min (lane_of 110 ?_ ?_ ?_) (lane_of 111 ?_ ?_ ?_)) <;> first | omega | rfl | (dsimp only; omega)

theorem chunk_28 : k0_pay74 (F := Ideal) (k0_pay11 a) b (k0_pay12 b) (ix2 i l) = min4 (lane a b i l) 112 := by
  pointwise [k0_pay11, k0_pay12, k0_pay74]
  refine congrArg₂ min (congrArg₂ min (lane_of 112 ?_ ?_ ?_) (lane_of 113 ?_ ?_ ?_)) (congrArg₂ min (lane_of 114 ?_ ?_ ?_) (lane_of 115 ?_ ?_ ?_)) <;> first | omega | rfl | (dsimp only; omega)

theorem chunk_29 : k0_pay79 (F := Ideal) (k0_pay12 b) (k0_pay75 (k0_pay11 a) b) (k0_pay76 (k0_pay11 a) b (k0_pay12 b)) (k0_pay77 (k0_pay11 a) b) (k0_pay78 (k0_pay12 b)) (ix2 i l) = min4 (lane a b i l) 116 := by
  pointwise [k0_pay11, k0_pay12, k0_pay75, k0_pay76, k0_pay77, k0_pay78, k0_pay79]
  refine congrArg₂ min (congrArg₂ min (lane_of 116 ?_ ?_ ?_) (lane_of 117 ?_ ?_ ?_)) (congrArg₂ min (lane_of 118 ?_ ?_ ?_) (lane_of 119 ?_ ?_ ?_)) <;> first | omega | rfl | (dsimp only; omega)

theorem chunk_30 : k0_pay80 (F := Ideal) (k0_pay11 a) b (k0_pay12 b) (ix2 i l) = min4 (lane a b i l) 120 := by
  pointwise [k0_pay11, k0_pay12, k0_pay80]
  refine congrArg₂ min (congrArg₂ min (lane_of 120 ?_ ?_ ?_) (lane_of 121 ?_ ?_ ?_)) (congrArg₂ min (lane_of 122 ?_ ?_ ?_) (lane_of 123 ?_ ?_ ?_)) <;> first | omega | rfl | (dsimp only; omega)

theorem chunk_31 : k0_pay81 (F := Ideal) (k0_pay11 a) b (k0_pay12 b) (ix2 i l) = min4 (lane a b i l) 124 := by
  pointwise [k0_pay11, k0_pay12, k0_pay81]
  refine congrArg₂ min (congrArg₂ min (lane_of 124 ?_ ?_ ?_) (lane_of 125 ?_ ?_ ?_)) (congrArg₂ min (lane_of 126 ?_ ?_ ?_) (lane_of 127 ?_ ?_ ?_)) <;> first | omega | rfl | (dsimp only; omega)

/-- The tree in which the 32 chunk minima are combined, over the values `g 0`, …, `g 127`. -/
def tree (g : ℕ → EReal) : EReal :=
  (min (min (min (min (min (min4 g 0) (min4 g 4)) (min (min4 g 8) (min4 g 12))) (min (min (min4 g 16) (min4 g 20)) (min (min4 g 24) (min4 g 28)))) (min (min (min (min4 g 32) (min4 g 36)) (min (min4 g 40) (min4 g 44))) (min (min (min4 g 48) (min4 g 52)) (min (min4 g 56) (min4 g 60))))) (min (min (min (min (min4 g 64) (min4 g 68)) (min (min4 g 72) (min4 g 76))) (min (min (min4 g 80) (min4 g 84)) (min (min4 g 88) (min4 g 92)))) (min (min (min (min4 g 96) (min4 g 100)) (min (min4 g 104) (min4 g 108))) (min (min (min4 g 112) (min4 g 116)) (min (min4 g 120) (min4 g 124))))))

theorem le_tree (g : ℕ → EReal) (x : EReal) : x ≤ tree g ↔ ∀ c < 128, x ≤ g c := by
  unfold tree min4
  simp only [le_min_iff]
  generalize (fun c => x ≤ g c) = p at *
  constructor
  · intro h c hc
    interval_cases c <;> simp only [h]
  · intro h
    repeat' apply And.intro
    all_goals exact h _ (by norm_num)

theorem blockMin_tree : blockMin (F := Ideal) a b (ix2 i l) = tree (lane a b i l) := by
  unfold blockMin tree
  simp only [k0_pay1, k0_pay2, k0_pay3, k0_pay82, k0_pay83, k0_pay84, minimumf_apply, Ideal.minimumf_def]
  rw [chunk_0, chunk_1, chunk_2, chunk_3, chunk_4, chunk_5, chunk_6, chunk_7, chunk_8, chunk_9, chunk_10, chunk_11, chunk_12, chunk_13, chunk_14, chunk_15, chunk_16, chunk_17, chunk_18, chunk_19, chunk_20, chunk_21, chunk_22, chunk_23, chunk_24, chunk_25, chunk_26, chunk_27, chunk_28, chunk_29, chunk_30, chunk_31]

/-- A number is at most the point's minimum at (i, l) exactly when it is at most every term of the lane. -/
theorem le_blockMin (x : EReal) :
    x ≤ blockMin (F := Ideal) a b (ix2 i l) ↔ ∀ j : Fin 16384, j.val % 128 = l.val → x ≤ term a b i j := by
  rw [blockMin_tree, le_tree]
  have hl := l.isLt
  constructor
  · intro h j hj
    have e : j = ⟨(128 * (j.val / 128) + l.val) % 16384, Nat.mod_lt _ (by decide)⟩ := Fin.ext (by dsimp only; omega)
    rw [e]
    exact h (j.val / 128) (by omega)
  · intro h c hc
    exact h _ (by dsimp only; omega)

end

end Cert.KernelIdeal.Hand
-- ==== Proof.Model.lean ====
/-
  The arithmetic that both programs share, over the real numbers: squared distances, smallest and largest values
  of a finite family, the first place at which a value is taken, and how the folds of the printed reductions read
  them.
-/
module

public import Idealize.ShloMosaic.PureOps.Ideal
public import Idealize.ShloMosaic.PureOps.Ideal.Laws
public import Idealize.ShloMosaic.Lib.IdealHost

@[expose] public section

noncomputable section

namespace Cert.Hand

open Idealize.ShloMosaic

/-! ### Constants -/

theorem c_quarter : Ideal.ofBits FTy.f32 1048576000#32 = ((1 / 4 : ℝ) : EReal) := by
  simp [Ideal.ofBits, Ideal.ieee, -EReal.coe_mul, -EReal.coe_neg]; norm_num
theorem c_neghalf : Ideal.ofBits FTy.f32 3204448256#32 = ((-(1 / 2) : ℝ) : EReal) := by
  simp [Ideal.ofBits, Ideal.ieee, -EReal.coe_mul, -EReal.coe_neg]; norm_num
theorem c_negtwo : Ideal.ofBits FTy.f32 3221225472#32 = ((-2 : ℝ) : EReal) := by
  simp [Ideal.ofBits, Ideal.ieee, -EReal.coe_mul, -EReal.coe_neg]; norm_num
theorem c_two : Ideal.ofBits FTy.f32 1073741824#32 = ((2 : ℝ) : EReal) := by
  simp [Ideal.ofBits, Ideal.ieee, -EReal.coe_mul, -EReal.coe_neg]; norm_num
theorem c_top : Ideal.ofBits FTy.f32 2139095040#32 = ⊤ := by
  simp [Ideal.ofBits, Ideal.ieee]
theorem c_bot : Ideal.ofBits FTy.f32 4286578688#32 = ⊥ := by
  simp [Ideal.ofBits, Ideal.ieee]

/-! ### Smallest and largest values -/

section
variable {ι : Type} [Fintype ι] [Nonempty ι]

/-- The smallest value of a finite family. -/
def least (f : ι → ℝ) : ℝ := Finset.univ.inf' Finset.univ_nonempty f
/-- The largest value of a finite family. -/
def greatest (f : ι → ℝ) : ℝ := Finset.univ.sup' Finset.univ_nonempty f

theorem least_le (f : ι → ℝ) (k : ι) : least f ≤ f k := Finset.inf'_le f (Finset.mem_univ k)
theorem le_greatest (f : ι → ℝ) (k : ι) : f k ≤ greatest f := Finset.le_sup' f (Finset.mem_univ k)
theorem exists_least (f : ι → ℝ) : ∃ k, f k = least f := by
  obtain ⟨k, _, h⟩ := Finset.exists_mem_eq_inf' Finset.univ_nonempty f
  exact ⟨k, h.symm⟩
theorem exists_greatest (f : ι → ℝ) : ∃ k, f k = greatest f := by
  obtain ⟨k, _, h⟩ := Finset.exists_mem_eq_sup' Finset.univ_nonempty f
  exact ⟨k, h.symm⟩

theorem least_eq {f : ι → ℝ} {k : ι} (h : ∀ j, f k ≤ f j) : least f = f k :=
  le_antisymm (least_le f k) ((exists_least f).elim fun j hj => hj ▸ h j)
theorem greatest_eq {f : ι → ℝ} {k : ι} (h : ∀ j, f j ≤ f k) : greatest f = f k :=
  le_antisymm ((exists_greatest f).elim fun j hj => hj ▸ h j) (le_greatest f k)

/-- A monotone function of the smallest value is the smallest value of the function. -/
theorem least_map {f : ι → ℝ} {φ : ℝ → ℝ} (hφ : Monotone φ) : least (fun k => φ (f k)) = φ (least f) := by
  obtain ⟨k, hk⟩ := exists_least f
  rw [← hk]
  exact least_eq fun j => hφ (hk ▸ least_le f j)
theorem greatest_map {f : ι → ℝ} {φ : ℝ → ℝ} (hφ : Monotone φ) : greatest (fun k => φ (f k)) = φ (greatest f) := by
  obtain ⟨k, hk⟩ := exists_greatest f
  rw [← hk]
  exact greatest_eq fun j => hφ (hk ▸ le_greatest f j)

theorem le_coe_least (f : ι → ℝ) (x : EReal) : x ≤ (least f : EReal) ↔ ∀ k, x ≤ (f k : EReal) := by
  constructor
  · intro h k
    exact h.trans (EReal.coe_le_coe_iff.2 (least_le f k))
  · intro h
    obtain ⟨k, hk⟩ := exists_least f
    exact hk ▸ h k

/-- The fold of `min` from plus infinity is the smallest value. -/
theorem fold_min_coe (f : ι → ℝ) : Finset.univ.fold min (⊤ : EReal) (fun k => (f k : EReal)) = (least f : EReal) := by
  refine eq_of_forall_le_iff fun x => ?_
  rw [Finset.le_fold_min, le_coe_least]
  simp
/-- The fold of `max` from minus infinity is the largest value. -/
theorem fold_max_coe (f : ι → ℝ) : Finset.univ.fold max (⊥ : EReal) (fun k => (f k : EReal)) = (greatest f : EReal) := by
  refine eq_of_forall_ge_iff fun x => ?_
  rw [Finset.fold_max_le]
  constructor
  · intro h
    obtain ⟨k, hk⟩ := exists_greatest f
    exact hk ▸ h.2 k (Finset.mem_univ k)
  · intro h
    exact ⟨bot_le, fun k _ => (EReal.coe_le_coe_iff.2 (le_greatest f k)).trans h⟩
end

theorem greatest_fst {n : ℕ} [Nonempty (Fin n)] (f : Fin n → ℝ) : greatest (fun x : Fin n × Fin 1 => f x.1) = greatest f := by
  obtain ⟨k, hk⟩ := exists_greatest f
  rw [← hk]
  exact greatest_eq (f := fun x : Fin n × Fin 1 => f x.1) (k := (k, 0)) fun j => hk ▸ le_greatest f j.1

/-! ### The first place with a property -/

/-- `k` is the first of the places (numbered by `num`) with property `p`. -/
def IsFirst {ι : Type} (num : ι → ℕ) (p : ι → Prop) (k : ι) : Prop := p k ∧ ∀ j, p j → num k ≤ num j

theorem exists_first {ι : Type} (num : ι → ℕ) {p : ι → Prop} (h : ∃ k, p k) : ∃ k, IsFirst num p k := by
  classical
  have h' : ∃ n, ∃ k, p k ∧ num k = n := h.elim fun k hk => ⟨num k, k, hk, rfl⟩
  obtain ⟨k, hk, hn⟩ := Nat.find_spec h'
  refine ⟨k, hk, fun j hj => ?_⟩
  rw [hn]
  exact Nat.find_min' h' ⟨j, hj, rfl⟩

theorem minsi_ofNat {a b : ℕ} (ha : a < 2 ^ 31) (hb : b < 2 ^ 31) :
    IntOp.minsi (BitVec.ofNat 32 a) (BitVec.ofNat 32 b) = BitVec.ofNat 32 (min a b) := by
  have e : ∀ n : ℕ, n < 2 ^ 31 → (BitVec.ofNat 32 n).toInt = n := fun n hn => by
    rw [BitVec.toInt_eq_toNat_of_lt] <;> simp only [BitVec.toNat_ofNat] <;> omega
  have hs : (BitVec.ofNat 32 a).slt (BitVec.ofNat 32 b) = decide (a < b) := by
    simp [BitVec.slt, e a ha, e b hb]
  unfold IntOp.minsi
  rw [hs]
  by_cases h : a < b
  · simp [h, min_eq_left h.le]
  · simp [h, min_eq_right (not_lt.1 h)]

/-- The signed minimum of words that hold naturals below `2 ^ 31` is the word of the smallest. -/
theorem fold_minsi {ι : Type} [Fintype ι] (w : ι → ℕ) (hw : ∀ k, w k < 2 ^ 31) {k : ι} (hk : ∀ j, w k ≤ w j) :
    Finset.univ.fold IntOp.minsi 2147483647#32 (fun j => BitVec.ofNat 32 (w j)) = BitVec.ofNat 32 (w k) := by
  classical
  have key : ∀ s : Finset ι, s.fold IntOp.minsi 2147483647#32 (fun j => BitVec.ofNat 32 (w j))
      = BitVec.ofNat 32 (s.fold min 2147483647 w) ∧ s.fold min 2147483647 w < 2 ^ 31 := by
    intro s
    induction s using Finset.induction_on with
    | empty => simp
    | insert a s ha ih =>
      rw [Finset.fold_insert ha, Finset.fold_insert ha, ih.1, minsi_ofNat (hw a) ih.2]
      exact ⟨rfl, lt_of_le_of_lt (min_le_left _ _) (hw a)⟩
  rw [(key Finset.univ).1]
  congr 1
  refine eq_of_forall_le_iff fun x => ?_
  rw [Finset.le_fold_min]
  constructor
  · exact fun h => h.2 k (Finset.mem_univ k)
  · exact fun h => ⟨by have := hw k; omega, fun j _ => h.trans (hk j)⟩

/-- The printed search for the first place with a property: the smallest number of such a place. -/
theorem fold_first {ι : Type} [Fintype ι] (num : ι → ℕ) (N : ℕ) (hN : N < 2 ^ 31) (hnum : ∀ k, num k < N)
    (p : ι → Prop) [DecidablePred p] {k : ι} (hk : IsFirst num p k) :
    Finset.univ.fold IntOp.minsi 2147483647#32 (fun j => if p j then BitVec.ofNat 32 (num j) else BitVec.ofNat 32 N)
      = BitVec.ofNat 32 (num k) := by
  have e := fold_minsi (fun j => if p j then num j else N) (fun j => by have := hnum j; split <;> omega) (k := k)
    (fun j => by rw [if_pos hk.1]; split; exacts [hk.2 j ‹_›, (hnum k).le])
  rw [if_pos hk.1] at e
  rw [← e]
  congr 1
  funext j
  split <;> rfl

/-! ### Squared distances -/

/-- The squared distance of two rows, as the programs compute it: expanded, and cut off at zero. -/
def sq (u v : Fin 64 → ℝ) : ℝ := max ((∑ k, u k * u k) + (∑ k, v k * v k) - 2 * ∑ k, u k * v k) 0

theorem sq_nonneg (u v : Fin 64 → ℝ) : 0 ≤ sq u v := le_max_right _ _

/-- It is the sum of the squares of the differences. -/
theorem sq_eq (u v : Fin 64 → ℝ) : sq u v = ∑ k, (u k - v k) * (u k - v k) := by
  have e : (∑ k, u k * u k) + (∑ k, v k * v k) - 2 * ∑ k, u k * v k = ∑ k, (u k - v k) * (u k - v k) := by
    rw [Finset.mul_sum, ← Finset.sum_add_distrib, ← Finset.sum_sub_distrib]
    exact Finset.sum_congr rfl fun k _ => by ring
  unfold sq
  rw [e]
  exact max_eq_left (Finset.sum_nonneg fun k _ => mul_self_nonneg _)

theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

end Cert.Hand
-- ==== Proof.First.lean ====
/-
  The values of the first kernel over real inputs: the running minima after its four grid points, and the three
  results taken from them — for every patch row the smallest squared distance to a library row, the largest of
  these, and the patch row where it is first taken.
-/
module

public import proofs.«01_k».proof.Proof.Block
public import proofs.«01_k».proof.Proof.Model
public import Idealize.ShloMosaic.Lib.Pipeline.ValueKit

@[expose] public section

set_option maxRecDepth 16384

noncomputable section

namespace Cert.KernelIdeal.Hand

open Idealize.ShloMosaic Cert.KernelIdeal Cert.KernelIdeal.Gen Cert.Hand

/-- The smallest squared distance from patch row `i` to a library row. -/
def _root_.Cert.Hand.best (P : Fin 3136 → Fin 64 → ℝ) (L : Fin 65536 → Fin 64 → ℝ) (i : Fin 3136) : ℝ :=
  least fun J => sq (P i) (L J)

section
variable {F : FTy → Type} [FloatOps F]

/-- The running minima after the last of the four grid points. -/
def accLast (a : Vec F S3136x64 .f32) (b0 b1 b2 b3 : Vec F S16384x64 .f32) : Vec F S3136x128 .f32 :=
  k0_pay5 (blockMin a b3) (k0_pay5 (blockMin a b2) (k0_pay5 (blockMin a b1) (k0_pay4 (blockMin a b0))))
end

variable {P : Fin 3136 → Fin 64 → ℝ} {L : Fin 65536 → Fin 64 → ℝ}

/-- The part of a squared distance that depends on the library row. -/
def rest (P : Fin 3136 → Fin 64 → ℝ) (L : Fin 65536 → Fin 64 → ℝ) (i : Fin 3136) (J : Fin 65536) : ℝ :=
  (∑ k, (-2 * P i k) * L J k) + ∑ k, L J k * L J k

theorem best_eq (i : Fin 3136) : max ((∑ k, P i k * P i k) + least (rest P L i)) 0 = best P L i := by
  have h : Monotone fun x : ℝ => max ((∑ k, P i k * P i k) + x) 0 := fun x y hxy =>
    max_le_max (add_le_add_right hxy _) le_rfl
  rw [show max ((∑ k, P i k * P i k) + least (rest P L i)) 0 = _ from (least_map h (f := rest P L i)).symm]
  unfold best
  congr 1
  funext J
  unfold Cert.Hand.sq rest
  have e : ∑ k, (-2 * P i k) * L J k = -(2 * ∑ k, P i k * L J k) := by
    rw [Finset.mul_sum, ← Finset.sum_neg_distrib]
    exact Finset.sum_congr rfl fun k _ => by ring
  rw [e]
  congr 1
  ring

/-- The row of the whole library that row `j` of block `t` is. -/
def libRow (t : Fin 4) (j : Fin 16384) : Fin 65536 := ⟨16384 * t.val + j.val, by omega⟩

section
variable {a : Vec Ideal S3136x64 .f32} {b : Fin 4 → Vec Ideal S16384x64 .f32}
variable (ha : ∀ i k, a (ix2 i k) = ((-2 * P i k : ℝ) : EReal))
variable (hb : ∀ t j k, b t (ix2 j k) = ((L (libRow t j) k : ℝ) : EReal))
include ha hb

theorem term_coe (t : Fin 4) (i : Fin 3136) (j : Fin 16384) :
    term a (b t) i j = ((rest P L i (libRow t j) : ℝ) : EReal) := by
  unfold term rest
  simp only [ha, hb, ← EReal.coe_mul, coe_sum, ← EReal.coe_add]

theorem le_accLast (i : Fin 3136) (l : Fin 128) (x : EReal) :
    x ≤ accLast (F := Ideal) a (b 0) (b 1) (b 2) (b 3) (ix2 i l)
      ↔ ∀ J : Fin 65536, J.val % 128 = l.val → x ≤ ((rest P L i J : ℝ) : EReal) := by
  have e : accLast (F := Ideal) a (b 0) (b 1) (b 2) (b 3) (ix2 i l)
      = min (min (min (blockMin (F := Ideal) a (b 0) (ix2 i l)) (blockMin (F := Ideal) a (b 1) (ix2 i l)))
          (blockMin (F := Ideal) a (b 2) (ix2 i l))) (blockMin (F := Ideal) a (b 3) (ix2 i l)) := by
    unfold accLast
    pointwise [k0_pay4, k0_pay5]
  rw [e]
  simp only [le_min_iff, le_blockMin, term_coe ha hb]
  constructor
  · rintro ⟨⟨⟨h0, h1⟩, h2⟩, h3⟩ J hJ
    have hJ' := J.isLt
    have key : ∀ t : Fin 4, J.val / 16384 = t.val → J = libRow t ⟨J.val % 16384, Nat.mod_lt _ (by decide)⟩ :=
      fun t ht => Fin.ext (by unfold libRow; dsimp only; omega)
    have hm : ((⟨J.val % 16384, Nat.mod_lt _ (by decide)⟩ : Fin 16384)).val % 128 = l.val := by dsimp only; omega
    rcases (by omega : J.val / 16384 = 0 ∨ J.val / 16384 = 1 ∨ J.val / 16384 = 2 ∨ J.val / 16384 = 3) with h | h | h | h
    · rw [key 0 h]; exact h0 _ hm
    · rw [key 1 h]; exact h1 _ hm
    · rw [key 2 h]; exact h2 _ hm
    · rw [key 3 h]; exact h3 _ hm
  · intro h
    refine ⟨⟨⟨fun j hj => h _ ?_, fun j hj => h _ ?_⟩, fun j hj => h _ ?_⟩, fun j hj => h _ ?_⟩ <;>
      (unfold libRow; dsimp only; simp only [Fin.val_zero, Fin.val_one, Fin.val_two, show ((3 : Fin 4) : ℕ) = 3 from rfl]; omega)

theorem fold_accLast (i : Fin 3136) :
    Finset.univ.fold min (Ideal.ofBits .f32 2139095040#32) (fun l => accLast (F := Ideal) a (b 0) (b 1) (b 2) (b 3) (ix2 i l))
      = ((least (rest P L i) : ℝ) : EReal) := by
  refine eq_of_forall_le_iff fun x => ?_
  rw [Finset.le_fold_min, le_coe_least, c_top]
  simp only [le_accLast ha hb, le_top, true_and]
  constructor
  · intro h J
    exact h ⟨J.val % 128, Nat.mod_lt _ (by decide)⟩ (Finset.mem_univ _) J rfl
  · intro h l _ J _
    exact h J

/-- The first result at patch row `i`. -/
theorem val_eq (i : Fin 3136) :
    k0_pay6 (F := Ideal) (k0_pay11 a) (accLast a (b 0) (b 1) (b 2) (b 3)) (ix2 i 0) = ((best P L i : ℝ) : EReal) := by
  have e : k0_pay6 (F := Ideal) (k0_pay11 a) (accLast a (b 0) (b 1) (b 2) (b 3)) (ix2 i 0)
      = max (Ideal.ofBits .f32 1048576000#32 * (∑ x, a (ix2 i x) * a (ix2 i x))
          + Finset.univ.fold min (Ideal.ofBits .f32 2139095040#32) (fun l => accLast (F := Ideal) a (b 0) (b 1) (b 2) (b 3) (ix2 i l))) 0 := by
    pointwise [k0_pay6, k0_pay11]
  rw [e, fold_accLast ha hb, ← best_eq, c_quarter]
  simp only [ha, ← EReal.coe_mul, coe_sum, ← EReal.coe_add, ← EReal.coe_zero, coe_max]
  congr 3
  rw [Finset.mul_sum]
  exact Finset.sum_congr rfl fun k _ => by ring

/-- The largest of them. -/
theorem top_eq : k0_pay7 (F := Ideal) (k0_pay11 a) (accLast a (b 0) (b 1) (b 2) (b 3)) = ((greatest (best P L) : ℝ) : EReal) := by
  have e : k0_pay7 (F := Ideal) (k0_pay11 a) (accLast a (b 0) (b 1) (b 2) (b 3))
      = Finset.univ.fold max (Ideal.ofBits .f32 4286578688#32)
          (fun x : Fin 3136 × Fin 1 => k0_pay6 (F := Ideal) (k0_pay11 a) (accLast a (b 0) (b 1) (b 2) (b 3)) (ix2 x.1 0)) := by
    pointwise [k0_pay7]
  rw [e, c_bot]
  simp only [val_eq ha hb]
  rw [fold_max_coe, greatest_fst]

/-- The second result. -/
theorem sd2_eq : k0_pay9 (F := Ideal) (k0_pay11 a) (accLast a (b 0) (b 1) (b 2) (b 3)) (ix2 0 0) = ((greatest (best P L) : ℝ) : EReal) := by
  rw [← top_eq ha hb]
  pointwise [k0_pay9]

/-- The word that names the first patch row with the largest distance. -/
theorem word_eq {i : Fin 3136} (hi : IsFirst (fun i : Fin 3136 => i.val) (fun i => best P L i = greatest (best P L)) i) :
    extractAt ![0, 0, 0] (k0_pay8 (F := Ideal) (k0_pay11 a) (accLast a (b 0) (b 1) (b 2) (b 3))) inpos_S1x1x1_p0_0_0
      = BitVec.ofNat 32 i.val := by
  have e : extractAt ![0, 0, 0] (k0_pay8 (F := Ideal) (k0_pay11 a) (accLast a (b 0) (b 1) (b 2) (b 3))) inpos_S1x1x1_p0_0_0
      = Finset.univ.fold IntOp.minsi 2147483647#32 (fun x : Fin 3136 × Fin 1 =>
          if k0_pay6 (F := Ideal) (k0_pay11 a) (accLast a (b 0) (b 1) (b 2) (b 3)) (ix2 x.1 0)
            = k0_pay7 (F := Ideal) (k0_pay11 a) (accLast a (b 0) (b 1) (b 2) (b 3)) then BitVec.ofNat 32 x.1.val else BitVec.ofNat 32 3136) := by
    pointwise [k0_pay8]
  rw [e, top_eq ha hb]
  simp only [val_eq ha hb, EReal.coe_eq_coe_iff]
  exact fold_first (fun x : Fin 3136 × Fin 1 => x.1.val) 3136 (by norm_num) (fun x => x.1.isLt)
    (fun x => best P L x.1 = greatest (best P L)) (k := (i, 0)) ⟨hi.1, fun j hj => hi.2 j.1 hj⟩

/-- The row that the kernel loads at that word, halved and negated, is the patch row itself. -/
theorem row_eq {i : Fin 3136} {r : Vec Ideal S1x64 .f32} (hr : ∀ k, r (ix2 0 k) = a (ix2 i k)) (k : Fin 64) :
    k0_pay10 (F := Ideal) r (ix2 0 k) = ((P i k : ℝ) : EReal) := by
  have e : k0_pay10 (F := Ideal) r (ix2 0 k) = Ideal.ofBits .f32 3204448256#32 * r (ix2 0 k) := by
    pointwise [k0_pay10]
  rw [e, hr, ha, c_neghalf, ← EReal.coe_mul]
  congr 1
  ring

end

/-- The offsets of that load. -/
theorem off1_eq (i : Fin 3136) : k0_off1 (BitVec.ofNat 32 i.val) = ![i.val, 0] := by
  have h := i.isLt
  have h1 : (BitVec.ofNat 32 i.val).toInt = i.val := by
    rw [BitVec.toInt_eq_toNat_of_lt] <;> simp only [BitVec.toNat_ofNat] <;> omega
  have h2 : IntOp.maxsi 0#32 (BitVec.ofNat 32 i.val) = BitVec.ofNat 32 i.val := by
    unfold IntOp.maxsi
    split
    · rename_i h3
      rw [BitVec.slt, h1] at h3
      simp at h3
      omega
    · rfl
  have h3 : IntOp.minsi 3135#32 (BitVec.ofNat 32 i.val) = BitVec.ofNat 32 i.val := by
    have := minsi_ofNat (a := 3135) (b := i.val) (by norm_num) (by omega)
    rwa [min_eq_right (by omega : i.val ≤ 3135)] at this
  have h4 : Scalar.minsi 3135#32 (Scalar.maxsi 0#32 (BitVec.ofNat 32 i.val)) = BitVec.ofNat 32 i.val := by
    show IntOp.minsi 3135#32 (IntOp.maxsi 0#32 (BitVec.ofNat 32 i.val)) = _
    rw [h2, h3]
  unfold k0_off1
  dsimp only
  rw [h4]
  have h5 : (Scalar.indexCast (BitVec.ofNat 32 i.val)).toNat = i.val := by
    show (BitVec.ofNat 32 i.val).toNat = i.val
    rw [BitVec.toNat_ofNat]
    omega
  rw [h5]

/-! ### The row that the last point loads -/

section
variable {F : FTy → Type} [FloatOps F]

/-- The load's offsets are in range for every word: the kernel clamps the word. -/
theorem off1_inb (v : BitVec 32) : ∀ x, (k0_off1 v) x + S1x64.size x ≤ S3136x64.size x :=
  k0_chk1_all (fun x => match x with | ⟨0, _⟩ => (3 : Fin 4)) v (by decide)

/-- The word that the last point finds. -/
def wordOf (a : Vec F S3136x64 .f32) (x : Vec F S3136x128 .f32) : BitVec 32 :=
  extractAt ![0, 0, 0] (k0_pay8 (k0_pay11 a) x) inpos_S1x1x1_p0_0_0

/-- The row at a word, halved and negated. -/
def rowAt (a : Vec F S3136x64 .f32) (w : BitVec 32) : Vec F S1x64 .f32 :=
  k0_pay10 (View.ld a (Rect.unit (s := S3136x64) (k0_off1 w) S1x64.size (off1_inb w)))

/-- The third result: the row at the word that the last point finds. -/
def rowOf (a : Vec F S3136x64 .f32) (x : Vec F S3136x128 .f32) : Vec F S1x64 .f32 := rowAt a (wordOf a x)

end

section
variable {a : Vec Ideal S3136x64 .f32} {b : Fin 4 → Vec Ideal S16384x64 .f32}
variable (ha : ∀ i k, a (ix2 i k) = ((-2 * P i k : ℝ) : EReal))
variable (hb : ∀ t j k, b t (ix2 j k) = ((L (libRow t j) k : ℝ) : EReal))
include ha hb

/-- The third result is the first patch row with the largest distance. -/
theorem rowOf_eq {i : Fin 3136} (hi : IsFirst (fun i : Fin 3136 => i.val) (fun i => best P L i = greatest (best P L)) i) (k : Fin 64) :
    rowOf (F := Ideal) a (accLast a (b 0) (b 1) (b 2) (b 3)) (ix2 0 k) = ((P i k : ℝ) : EReal) := by
  have hw : k0_off1 (wordOf (F := Ideal) a (accLast a (b 0) (b 1) (b 2) (b 3))) = ![i.val, 0] := by
    unfold wordOf
    rw [word_eq ha hb hi, off1_eq]
  unfold rowOf rowAt
  refine row_eq ha hb (i := i) (fun k => ?_) k
  refine View.ld_unit_apply_of a _ _ _ (ix2 0 k) (ix2 i k) fun x => ?_
  refine Eq.trans ?_ (congrArg (· + _) (congrFun hw x).symm)
  match x with
  | ⟨0, _⟩ => exact (Nat.add_zero _).symm
  | ⟨1, _⟩ => exact (Nat.zero_add _).symm
end

end Cert.KernelIdeal.Hand
-- ==== Proof.Link.lean ====
/-
  What the first kernel's run leaves in its three results, named: the running minima of the points before, and at the
  last point the three values taken from them.
-/
module

public import proofs.«01_k».proof.Proof.First
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Hand

open Idealize.ShloMosaic Cert.KernelIdeal Cert.KernelIdeal.Gen Cert.Hand

variable {F : FTy → Type} [FloatOps F]
variable (m : (ℓ : Loc nD τ sig) → Buf (Elt F) ℓ)

theorem acc_first (c : Dev nD) (t : Fin cfg0.N) (h0 : t.val % 4 = 0) (h1 : ¬1 ≤ t.val) (h2 : ¬t.val % 4 = 3) :
    (outsAt0 m c t.val t.isLt).2.2.2 = k0_pay4 (blockMin (iblk m c 0 t) (iblk m c 1 t)) := by
  rw [outsAt0_A m c t h0 h1 h2]
  frame_out
  rfl

theorem acc_mid (c : Dev nD) (t : Fin cfg0.N) (h0 : ¬t.val % 4 = 0) (h1 : 1 ≤ t.val) (h2 : ¬t.val % 4 = 3) :
    (outsAt0 m c t.val t.isLt).2.2.2
      = k0_pay5 (blockMin (iblk m c 0 t) (iblk m c 1 t)) (outsAt0 m c (t.val - 1) (by omega)).2.2.2 := by
  rw [outsAt0_B m c t h0 h1 h2]
  frame_out
  simp only [read_unread_whole]
  rfl

theorem last_val (c : Dev nD) (t : Fin cfg0.N) (h0 : ¬t.val % 4 = 0) (h1 : 1 ≤ t.val) (h2 : t.val % 4 = 3) :
    (outsAt0 m c t.val t.isLt).1 = k0_pay6 (k0_pay11 (iblk m c 0 t))
      (k0_pay5 (blockMin (iblk m c 0 t) (iblk m c 1 t)) (outsAt0 m c (t.val - 1) (by omega)).2.2.2) := by
  rw [outsAt0_C m c t h0 h1 h2]
  frame_out
  simp only [read_unread_whole]
  refine congrArg (k0_pay6 _) ?_
  rfl

theorem last_sd2 (c : Dev nD) (t : Fin cfg0.N) (h0 : ¬t.val % 4 = 0) (h1 : 1 ≤ t.val) (h2 : t.val % 4 = 3) :
    (outsAt0 m c t.val t.isLt).2.1 = k0_pay9 (k0_pay11 (iblk m c 0 t))
      (k0_pay5 (blockMin (iblk m c 0 t) (iblk m c 1 t)) (outsAt0 m c (t.val - 1) (by omega)).2.2.2) := by
  rw [outsAt0_C m c t h0 h1 h2]
  frame_out
  simp only [read_unread_whole]
  refine congrArg (k0_pay9 _) ?_
  rfl

theorem last_row (c : Dev nD) (t : Fin cfg0.N) (h0 : ¬t.val % 4 = 0) (h1 : 1 ≤ t.val) (h2 : t.val % 4 = 3) :
    (outsAt0 m c t.val t.isLt).2.2.1 = rowOf (iblk m c 0 t)
      (k0_pay5 (blockMin (iblk m c 0 t) (iblk m c 1 t)) (outsAt0 m c (t.val - 1) (by omega)).2.2.2) := by
  rw [outsAt0_C m c t h0 h1 h2]
  frame_out
  unfold rowOf
  change rowAt (iblk m c 0 t) _ = rowAt (iblk m c 0 t) _
  with_reducible refine congrArg (rowAt _) ?_
  unfold wordOf
  with_reducible refine congrArg (fun v : IVec S1x1x1 32 => extractAt ![0, 0, 0] v inpos_S1x1x1_p0_0_0) ?_
  with_reducible refine congrArg₂ k0_pay8 ?_ ?_
  · simp (disch := decide) only [View.ld_unit_lit', View.readAt_eq_ld, Memref.IsWhole.read_unread]
  rw [View.readCov_unit_lit' _ _ _ (by decide)]
  with_reducible refine congrArg₂ k0_pay5 ?_ ?_
  · simp (disch := decide) only [View.ld_unit_lit', View.readAt_eq_ld, Memref.IsWhole.read_unread]
    rfl
  · simp (disch := decide) only [View.ld_unit_lit', View.readAt_eq_ld, read_unread_whole]

section
variable {c : Dev nD} {a : Vec F S3136x64 .f32} {b : Fin 4 → Vec F S16384x64 .f32}
variable (hA : ∀ t : Fin cfg0.N, (iblk m c 0 t : Vec F S3136x64 .f32) = a)
variable (hB : ∀ t : Fin cfg0.N, (iblk m c 1 t : Vec F S16384x64 .f32) = b ⟨t.val, lt_of_lt_of_eq t.isLt N_0⟩)
include hA hB

/-- The running minima after the last point, from those of the points before. -/
theorem acc_all :
    k0_pay5 (blockMin (iblk m c 0 (⟨3, lt_of_lt_of_eq (by decide) N_0.symm⟩ : Fin cfg0.N)) (iblk m c 1 (⟨3, lt_of_lt_of_eq (by decide) N_0.symm⟩ : Fin cfg0.N)))
      (outsAt0 m c 2 (lt_of_lt_of_eq (by decide) N_0.symm)).2.2.2 = accLast a (b 0) (b 1) (b 2) (b 3) := by
  have h0 := acc_first m c (⟨0, lt_of_lt_of_eq (by decide) N_0.symm⟩ : Fin cfg0.N) rfl (by decide) (by decide)
  have h1 := acc_mid m c (⟨1, lt_of_lt_of_eq (by decide) N_0.symm⟩ : Fin cfg0.N) (by decide) (by decide) (by decide)
  have h2 := acc_mid m c (⟨2, lt_of_lt_of_eq (by decide) N_0.symm⟩ : Fin cfg0.N) (by decide) (by decide) (by decide)
  rw [hA, hB] at h0 h1 h2
  rw [hA, hB]
  unfold accLast
  refine (congrArg _ ?_ : _)
  refine h2.trans (congrArg _ ?_)
  exact h1.trans (congrArg _ h0)

/-- The three results, named. -/
theorem results : Value.G2 m c = k0_pay6 (k0_pay11 a) (accLast a (b 0) (b 1) (b 2) (b 3))
    ∧ Value.G3 m c = k0_pay9 (k0_pay11 a) (accLast a (b 0) (b 1) (b 2) (b 3))
    ∧ Value.G4 m c = rowOf a (accLast a (b 0) (b 1) (b 2) (b 3)) := by
  have hs := Value.outsAt0_sweep m c 3 (lt_of_lt_of_eq (by decide) N_0.symm)
  have e := acc_all m hA hB
  refine ⟨?_, ?_, ?_⟩
  · rw [Value.G2_last, ← hs]
    refine (last_val m c (⟨3, lt_of_lt_of_eq (by decide) N_0.symm⟩ : Fin cfg0.N) (by decide) (by decide) (by decide)).trans ?_
    rw [← e, hA]
    rfl
  · rw [Value.G3_last, ← hs]
    refine (last_sd2 m c (⟨3, lt_of_lt_of_eq (by decide) N_0.symm⟩ : Fin cfg0.N) (by decide) (by decide) (by decide)).trans ?_
    rw [← e, hA]
    rfl
  · rw [Value.G4_last, ← hs]
    refine (last_row m c (⟨3, lt_of_lt_of_eq (by decide) N_0.symm⟩ : Fin cfg0.N) (by decide) (by decide) (by decide)).trans ?_
    rw [← e, hA]
    rfl
end

end Cert.KernelIdeal.Hand
-- ==== Proof.Windows.lean ====
/-
  What the first kernel finds in its two windows: the query rows times minus two, and one block of the library.
-/
module

public import proofs.«01_k».proof.Proof.Link
public import Idealize.ShloMosaic.Lib.Claim

@[expose] public section

set_option maxRecDepth 16384

noncomputable section

namespace Cert.KernelIdeal.Hand

open Idealize.ShloMosaic Cert.KernelIdeal Cert.KernelIdeal.Gen Cert.Hand

variable (m : (ℓ : Loc nD τ sig) → Buf (Elt Ideal) ℓ)

theorem idx : ∀ t : Fin cfg0.N, win0_0.index t = ![0, 0] ∧ win0_1.index t = ![t.val % 4, 0] := by decide +kernel

/-- The scaled query rows as the kernel finds them. -/
def queries (c : Dev nD) : FVec Ideal S3136x64 .f32 :=
  mulf (F := Ideal) (φ := .f32) (m ((c.tc : Thread nD τ).loc main_arg0)) (broadcastInDim S3136x64 ![] bcast_S_S3136x64 (constant S_ .f32 0xC0000000#32))

theorem scaled {x : FVec Ideal S3136x64 .f32} {i : Fin 3136} {k : Fin 64} {r : ℝ} (h : x (ix2 i k) = ((r : ℝ) : EReal)) :
    mulf (F := Ideal) x (broadcastInDim S3136x64 ![] bcast_S_S3136x64 (constant S_ .f32 0xC0000000#32)) (ix2 i k)
      = ((-2 * r : ℝ) : EReal) := by
  have e : mulf (F := Ideal) x (broadcastInDim S3136x64 ![] bcast_S_S3136x64 (constant S_ .f32 0xC0000000#32)) (ix2 i k)
      = x (ix2 i k) * Ideal.ofBits .f32 3221225472#32 := by
    pointwise
  rw [e, h, c_negtwo, ← EReal.coe_mul, mul_comm]

theorem win0 (c : Dev nD) (t : Fin cfg0.N) : (iblk m c 0 t : Vec Ideal S3136x64 .f32) = queries m c := by
  funext x
  obtain ⟨i, k, rfl⟩ : ∃ i k, x = ix2 i k := ⟨x 0, x 1, by funext a; fin_cases a <;> rfl⟩
  unfold iblk queries
  show V m c main_v1 _ = _
  entry_read
  blk_ext [idx t]

theorem win1 (c : Dev nD) (t : Fin cfg0.N) (j : Fin 16384) (k : Fin 64) :
    (iblk m c 1 t : Vec Ideal S16384x64 .f32) (ix2 j k)
      = m ((c.tc : Thread nD τ).loc main_arg1) (ix2 (libRow ⟨t.val, lt_of_lt_of_eq t.isLt N_0⟩ j) k) := by
  unfold libRow
  blk_ext [iblk, V, idx t]

end Cert.KernelIdeal.Hand
-- ==== Proof.Finite.lean ====
/-
  What the precondition says of the two arguments: every entry is a real number.
-/
module

public import proofs.«01_k».proof.Proof.Gen.Pre_finite
public import proofs.«01_k».proof.Proof.Model
public import Idealize.ShloMosaic.Lib.Pointwise
public import Idealize.ShloMosaic.Lib.Pipeline.ValueKit

@[expose] public section

set_option maxRecDepth 16384

noncomputable section

namespace Cert.Hand

open Idealize.ShloMosaic

/-- One-bit conjunction is one only when both bits are. -/
theorem andi_one {x y : BitVec 1} (h : IntOp.andi x y = 1#1) : x = 1#1 ∧ y = 1#1 := by
  revert x y
  decide

/-- A conjunction over a finite set is one only when every bit is. -/
theorem fold_andi {ι : Type} [DecidableEq ι] (S : Finset ι) (f : ι → BitVec 1) :
    S.fold IntOp.andi 1#1 f = 1#1 → ∀ i ∈ S, f i = 1#1 := by
  induction S using Finset.induction_on with
  | empty => exact fun _ i hi => absurd hi (Finset.notMem_empty i)
  | insert a S ha ih =>
    intro h i hi
    rw [Finset.fold_insert ha] at h
    rcases Finset.mem_insert.mp hi with rfl | hi
    · exact (andi_one h).1
    · exact ih (andi_one h).2 i hi

/-- An absolute value below infinity is that of a real number. -/
theorem real_of_abs {x : EReal} (h : FloatOps.cmpf (F := Ideal) (φ := .f32) .olt (max x (-x)) ⊤ = 1#1) : ∃ r : ℝ, x = ↑r := by
  have hlt : max x (-x) < ⊤ := by
    by_contra hn
    have : BitVec.ofBool (decide (max x (-x) < ⊤)) = 1#1 := h
    rw [decide_eq_false hn] at this
    exact absurd this (by decide)
  rcases max_lt_iff.mp hlt with ⟨h1, h2⟩
  induction x with
  | bot => exact absurd h2 (by simp)
  | coe r => exact ⟨r, rfl⟩
  | top => exact absurd h1 (by simp)

theorem reals (x : FVec Ideal Cert.Pre_finite.S3136x64 .f32) (y : FVec Ideal Cert.Pre_finite.S65536x64 .f32)
    (h : Cert.Pre_finite.fn (F := Ideal) x y = fun _ => 1#1) :
    ∃ (P : Fin 3136 → Fin 64 → ℝ) (L : Fin 65536 → Fin 64 → ℝ),
      (∀ i k, x (ix2 i k) = ↑(P i k)) ∧ ∀ J k, y (ix2 J k) = ↑(L J k) := by
  have h0 := andi_one (congrFun h ix0)
  have hx : ∀ i k, ∃ r : ℝ, x (ix2 i k) = ↑r := by
    intro i k
    have := h0.1
    dsimp only at this
    rw [Host.reduce_eq_fold] at this
    have := fold_andi _ _ this (ix2 i k) (Finset.mem_filter.mpr ⟨Finset.mem_univ _, Subsingleton.elim _ _⟩)
    refine real_of_abs ?_
    pointwise at this
    exact this
  have hy : ∀ i k, ∃ r : ℝ, y (ix2 i k) = ↑r := by
    intro i k
    have := h0.2
    dsimp only at this
    rw [Host.reduce_eq_fold] at this
    have := fold_andi _ _ this (ix2 i k) (Finset.mem_filter.mpr ⟨Finset.mem_univ _, Subsingleton.elim _ _⟩)
    refine real_of_abs ?_
    pointwise at this
    exact this
  choose P hP using hx
  choose L hL using hy
  exact ⟨P, L, hP, hL⟩

end Cert.Hand
-- ==== Proof.RefRun.lean ====
/-
  The reference's run, read by hand: its line of host operations, the tables it computes on the way named one by one, and
  the three arrays it returns as functions of the two arguments.
-/
module

public import proofs.«01_k».proof.Proof.Gen.ReferenceIdeal
public import Idealize.ShloMosaic.Lib.StableHlo.RunRead
public import Idealize.ShloMosaic.Lib.StableHlo.RunHlo
public import Idealize.ShloMosaic.Lib.Quiescent

@[expose] public section

set_option maxRecDepth 16384

noncomputable section

namespace Cert.ReferenceIdeal.Hand

open Idealize.ShloMosaic Idealize.ShloMosaic.StableHlo Idealize.ShloMosaic.TcCoe Idealize.SL.Sem
open Cert.ReferenceIdeal Cert.ReferenceIdeal.Gen

variable {F : FTy → Type} [FloatOps F]

/-- The squared distances between all rows, by the expanded square, never below zero. -/
def table (x : FVec F S3136x64 .f32) (y : FVec F S65536x64 .f32) : FVec F S3136x65536 .f32 :=
  maximumf (subf (addf
      (broadcastInDim S3136x65536 ![0, 1] bcast_S3136x1_S3136x65536_0_1 (broadcastInDim S3136x1 ![0] bcast_S3136_S3136x1_0
        (Host.reduceAdd (mulf x x) (constant S_ .f32 0x00000000#32) reducesTo_S3136x64_S3136_d1 h_S_)))
      (broadcastInDim S3136x65536 ![0, 1] bcast_S1x65536_S3136x65536_0_1 (broadcastInDim S1x65536 ![1] bcast_S65536_S1x65536_1
        (Host.reduceAdd (mulf y y) (constant S_ .f32 0x00000000#32) reducesTo_S65536x64_S65536_d1 h_S_))))
      (mulf (broadcastInDim S3136x65536 ![] bcast_S_S3136x65536 (constant S_ .f32 0x40000000#32))
        (Host.dotGeneral dot_S3136x64_S64x65536_S3136x65536_1_0_0_1_n_n none x
          (transpose S64x65536 [1, 0] y transposes_S65536x64_S64x65536_1_0))))
    (broadcastInDim S3136x65536 ![] bcast_S_S3136x65536 (constant S_ .f32 0x00000000#32))

/-- The smallest entry of each row of the table. -/
def rowMin (d : FVec F S3136x65536 .f32) : FVec F S3136 .f32 :=
  Host.reduce FloatOps.minimumf d (constant S_ .f32 0x7F800000#32) reducesTo_S3136x65536_S3136_d1 h_S_

/-- The largest of the row minima. -/
def topMin (q : FVec F S3136 .f32) : FVec F S_ .f32 :=
  Host.reduce FloatOps.maximumf q (constant S_ .f32 0xFF800000#32) reducesTo_S3136_S_d0 h_S_

/-- The first row where the largest minimum stands. -/
def firstRow (q : FVec F S3136 .f32) : IVec S_ 32 :=
  Host.reduce IntOp.minsi (select (cmpf .oeq q (broadcastInDim S3136 ![] bcast_S_S3136 (topMin q))) (iotaInDim S3136 32 0)
    (broadcastInDim S3136 ![] bcast_S_S3136 (constantI S_ 32 3136#32))) (constantI S_ 32 2147483647#32) reducesTo_S3136_S_d0 h_S_

/-- A row index, counted from the end when it is negative. -/
def wrapped (i : IVec S_ 32) : IVec S_ 32 :=
  select (cmpi .slt i (constantI S_ 32 0#32)) (addi i (constantI S_ 32 3136#32)) i

/-- The two starts of that row: the wrapped index, and the first column. -/
def starts (i : IVec S_ 32) : Fin 2 → IVec S_ 32 :=
  ![wrapped i, select (cmpi .slt (constantI S_ 32 0#32) (constantI S_ 32 0#32))
    (addi (constantI S_ 32 0#32) (constantI S_ 32 64#32)) (constantI S_ 32 0#32)]

theorem starts_zero (i : IVec S_ 32) : starts i 0 = wrapped i := rfl
theorem starts_one (i : IVec S_ 32) : starts i 1 = select (cmpi .slt (constantI S_ 32 0#32) (constantI S_ 32 0#32))
    (addi (constantI S_ 32 0#32) (constantI S_ 32 64#32)) (constantI S_ 32 0#32) := rfl

theorem pair_eq {α : Type} {u v : Fin 2 → α} (h0 : u 0 = v 0) (h1 : u 1 = v 1) : u = v := by
  funext k
  match k with
  | 0 => exact h0
  | 1 => exact h1

/-- The row of the queries at an index. -/
def rowPick (x : FVec F S3136x64 .f32) (i : IVec S_ 32) : FVec F S1x64 .f32 :=
  broadcastInDim S1x64 ![1] bcast_S64_S1x64_1 (shapeCast S64 (Host.dynamicSlice S1x64 x
    (fun k => (starts i k (Shape.Idx.first h_S_)).toInt)
    sliceFits_S3136x64_S1x64) shapeCasts_S1x64_S64)

/-- The reference's operations in order. -/
abbrev line : List (HloOp τ sig (Elt F)) :=
  [ binary main_arg0 main_arg0 main_v0 (mulf : (⟨S3136x64, .f32⟩ : BufTy).Contents (Elt F) → (⟨S3136x64, .f32⟩ : BufTy).Contents (Elt F) → (⟨S3136x64, .f32⟩ : BufTy).Contents (Elt F)),
    nullary main_cst (constant S_ .f32 0x00000000#32),
    binary main_v0 main_cst main_v1 ((fun x v => Host.reduceAdd x v reducesTo_S3136x64_S3136_d1 h_S_) : (⟨S3136x64, .f32⟩ : BufTy).Contents (Elt F) → (⟨S_, .f32⟩ : BufTy).Contents (Elt F) → (⟨S3136, .f32⟩ : BufTy).Contents (Elt F)),
    unary main_v1 main_v2 (broadcastInDim S3136x1 ![0] bcast_S3136_S3136x1_0 : (⟨S3136, .f32⟩ : BufTy).Contents (Elt F) → (⟨S3136x1, .f32⟩ : BufTy).Contents (Elt F)),
    binary main_arg1 main_arg1 main_v3 (mulf : (⟨S65536x64, .f32⟩ : BufTy).Contents (Elt F) → (⟨S65536x64, .f32⟩ : BufTy).Contents (Elt F) → (⟨S65536x64, .f32⟩ : BufTy).Contents (Elt F)),
    nullary main_cst_0 (constant S_ .f32 0x00000000#32),
    binary main_v3 main_cst_0 main_v4 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v4 main_v5 (broadcastInDim S1x65536 ![1] bcast_S65536_S1x65536_1 : (⟨S65536, .f32⟩ : BufTy).Contents (Elt F) → (⟨S1x65536, .f32⟩ : BufTy).Contents (Elt F)),
    unary main_v2 main_v6 (broadcastInDim S3136x65536 ![0, 1] bcast_S3136x1_S3136x65536_0_1 : (⟨S3136x1, .f32⟩ : BufTy).Contents (Elt F) → (⟨S3136x65536, .f32⟩ : BufTy).Contents (Elt F)),
    unary main_v5 main_v7 (broadcastInDim S3136x65536 ![0, 1] bcast_S1x65536_S3136x65536_0_1 : (⟨S1x65536, .f32⟩ : BufTy).Contents (Elt F) → (⟨S3136x65536, .f32⟩ : BufTy).Contents (Elt F)),
    binary main_v6 main_v7 main_v8 (addf : (⟨S3136x65536, .f32⟩ : BufTy).Contents (Elt F) → (⟨S3136x65536, .f32⟩ : BufTy).Contents (Elt F) → (⟨S3136x65536, .f32⟩ : BufTy).Contents (Elt F)),
    unary main_arg1 main_v9 ((transpose S64x65536 [1, 0] · transposes_S65536x64_S64x65536_1_0) : (⟨S65536x64, .f32⟩ : BufTy).Contents (Elt F) → (⟨S64x65536, .f32⟩ : BufTy).Contents (Elt F)),
    binary main_arg0 main_v9 main_v10 ((fun l r => Host.dotGeneral dot_S3136x64_S64x65536_S3136x65536_1_0_0_1_n_n none l r) : (⟨S3136x64, .f32⟩ : BufTy).Contents (Elt F) → (⟨S64x65536, .f32⟩ : BufTy).Contents (Elt F) → (⟨S3136x65536, .f32⟩ : BufTy).Contents (Elt F)),
    nullary main_cst_1 (constant S_ .f32 0x40000000#32),
    unary main_cst_1 main_v11 (broadcastInDim S3136x65536 ![] bcast_S_S3136x65536 : (⟨S_, .f32⟩ : BufTy).Contents (Elt F) → (⟨S3136x65536, .f32⟩ : BufTy).Contents (Elt F)),
    binary main_v11 main_v10 main_v12 (mulf : (⟨S3136x65536, .f32⟩ : BufTy).Contents (Elt F) → (⟨S3136x65536, .f32⟩ : BufTy).Contents (Elt F) → (⟨S3136x65536, .f32⟩ : BufTy).Contents (Elt F)),
    binary main_v8 main_v12 main_v13 (subf : (⟨S3136x65536, .f32⟩ : BufTy).Contents (Elt F) → (⟨S3136x65536, .f32⟩ : BufTy).Contents (Elt F) → (⟨S3136x65536, .f32⟩ : BufTy).Contents (Elt F)),
    nullary main_cst_2 (constant S_ .f32 0x00000000#32),
    unary main_cst_2 main_v14 (broadcastInDim S3136x65536 ![] bcast_S_S3136x65536 : (⟨S_, .f32⟩ : BufTy).Contents (Elt F) → (⟨S3136x65536, .f32⟩ : BufTy).Contents (Elt F)),
    binary main_v13 main_v14 main_v15 (maximumf : (⟨S3136x65536, .f32⟩ : BufTy).Contents (Elt F) → (⟨S3136x65536, .f32⟩ : BufTy).Contents (Elt F) → (⟨S3136x65536, .f32⟩ : BufTy).Contents (Elt F)),
    nullary main_cst_3 (constant S_ .f32 0x7F800000#32),
    binary main_v15 main_cst_3 main_v16 ((fun x v => Host.reduce FloatOps.minimumf x v reducesTo_S3136x65536_S3136_d1 h_S_) : (⟨S3136x65536, .f32⟩ : BufTy).Contents (Elt F) → (⟨S_, .f32⟩ : BufTy).Contents (Elt F) → (⟨S3136, .f32⟩ : BufTy).Contents (Elt F)),
    nullary main_cst_4 (constant S_ .f32 0xFF800000#32),
    binary main_v16 main_cst_4 main_v17 ((fun x v => Host.reduce FloatOps.maximumf x v reducesTo_S3136_S_d0 h_S_) : (⟨S3136, .f32⟩ : BufTy).Contents (Elt F) → (⟨S_, .f32⟩ : BufTy).Contents (Elt F) → (⟨S_, .f32⟩ : BufTy).Contents (Elt F)),
    unary main_v17 main_v18 (broadcastInDim S3136 ![] bcast_S_S3136 : (⟨S_, .f32⟩ : BufTy).Contents (Elt F) → (⟨S3136, .f32⟩ : BufTy).Contents (Elt F)),
    binary main_v16 main_v18 main_v19 (cmpf .oeq : (⟨S3136, .f32⟩ : BufTy).Contents (Elt F) → (⟨S3136, .f32⟩ : BufTy).Contents (Elt F) → (⟨S3136, .i1⟩ : BufTy).Contents (Elt F)),
    nullary main_v20 (iotaInDim S3136 32 0),
    nullary main_c (constantI S_ 32 3136#32),
    TRef.unary (TRef.of (T := ⟨S_, .i32⟩) main_c) (TRef.of (T := ⟨S_, .i32⟩) main_call0_v0) id,
    TRef.unary (TRef.of (T := ⟨S_, .i32⟩) main_call0_v0) (TRef.of (T := ⟨S3136, .i32⟩) main_call0_v1) (broadcastInDim S3136 ![] bcast_S_S3136),
    TRef.ternary (TRef.of (T := ⟨S3136, .i1⟩) main_v19) (TRef.of (T := ⟨S3136, .i32⟩) main_v20) (TRef.of (T := ⟨S3136, .i32⟩) main_call0_v1) (TRef.of (T := ⟨S3136, .i32⟩) main_v21) select,
    nullary main_c_5 (constantI S_ 32 2147483647#32),
    binary main_v21 main_c_5 main_v22 ((fun x v => Host.reduce IntOp.minsi x v reducesTo_S3136_S_d0 h_S_) : (⟨S3136, .i32⟩ : BufTy).Contents (Elt F) → (⟨S_, .i32⟩ : BufTy).Contents (Elt F) → (⟨S_, .i32⟩ : BufTy).Contents (Elt F)),
    unary main_v16 main_v23 (broadcastInDim S3136x1 ![0] bcast_S3136_S3136x1_0 : (⟨S3136, .f32⟩ : BufTy).Contents (Elt F) → (⟨S3136x1, .f32⟩ : BufTy).Contents (Elt F)),
    nullary main_cst_6 (constant S_ .f32 0xFF800000#32),
    binary main_v16 main_cst_6 main_v24 ((fun x v => Host.reduce FloatOps.maximumf x v reducesTo_S3136_S_d0 h_S_) : (⟨S3136, .f32⟩ : BufTy).Contents (Elt F) → (⟨S_, .f32⟩ : BufTy).Contents (Elt F) → (⟨S_, .f32⟩ : BufTy).Contents (Elt F)),
    unary main_v24 main_v25 (broadcastInDim S1x1 ![] bcast_S_S1x1 : (⟨S_, .f32⟩ : BufTy).Contents (Elt F) → (⟨S1x1, .f32⟩ : BufTy).Contents (Elt F)),
    nullary main_c_7 (constantI S_ 32 0#32),
    binary main_v22 main_c_7 main_v26 (cmpi .slt : (⟨S_, .i32⟩ : BufTy).Contents (Elt F) → (⟨S_, .i32⟩ : BufTy).Contents (Elt F) → (⟨S_, .i1⟩ : BufTy).Contents (Elt F)),
    nullary main_c_8 (constantI S_ 32 3136#32),
    binary main_v22 main_c_8 main_v27 (addi : (⟨S_, .i32⟩ : BufTy).Contents (Elt F) → (⟨S_, .i32⟩ : BufTy).Contents (Elt F) → (⟨S_, .i32⟩ : BufTy).Contents (Elt F)),
    ternary main_v26 main_v27 main_v22 main_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_9 (constantI S_ 32 0#32),
    nullary main_c_10 (constantI S_ 32 0#32),
    binary main_c_9 main_c_10 main_v29 (cmpi .slt : (⟨S_, .i32⟩ : BufTy).Contents (Elt F) → (⟨S_, .i32⟩ : BufTy).Contents (Elt F) → (⟨S_, .i1⟩ : BufTy).Contents (Elt F)),
    nullary main_c_11 (constantI S_ 32 0#32),
    nullary main_c_12 (constantI S_ 32 64#32),
    binary main_c_11 main_c_12 main_v30 (addi : (⟨S_, .i32⟩ : BufTy).Contents (Elt F) → (⟨S_, .i32⟩ : BufTy).Contents (Elt F) → (⟨S_, .i32⟩ : BufTy).Contents (Elt F)),
    nullary main_c_13 (constantI S_ 32 0#32),
    ternary main_v29 main_v30 main_c_13 main_v31 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg0 ![main_v28, main_v31] ⟨S_, .i32⟩ main_v32 ((fun x i => Host.dynamicSlice S1x64 x (fun k => (i k (Shape.Idx.first h_S_)).toInt) sliceFits_S3136x64_S1x64) : (⟨S3136x64, .f32⟩ : BufTy).Contents (Elt F) → (Fin 2 → (⟨S_, .i32⟩ : BufTy).Contents (Elt F)) → (⟨S1x64, .f32⟩ : BufTy).Contents (Elt F)),
    reshape main_v32 main_v33 (rfl : (.f32 : EltTy) = .f32) shapeCasts_S1x64_S64,
    unary main_v33 main_v34 (broadcastInDim S1x64 ![1] bcast_S64_S1x64_1 : (⟨S64, .f32⟩ : BufTy).Contents (Elt F) → (⟨S1x64, .f32⟩ : BufTy).Contents (Elt F)) ]

theorem main_line (c : Dev nD) : main (F := F) c = seq line := rfl

theorem line_sub : (line : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., binary_bufs_sub .., unary_bufs_sub .., binary_bufs_sub .., nullary_bufs_sub .., nullary_bufs_sub .., unary_bufs_sub .., unary_bufs_sub .., ternary_bufs_sub .., nullary_bufs_sub .., binary_bufs_sub .., unary_bufs_sub .., nullary_bufs_sub .., binary_bufs_sub .., unary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub ..⟩

variable (V : Valuation τ sig (Elt F))

theorem table_21 : upto line V 21 (no_index (Proc.devRef .tc main_v15)) = table (V (Proc.devRef .tc main_arg0)) (V (Proc.devRef .tc main_arg1)) := by
  after_reads_simp
  try rfl

theorem min_23 : upto line V 23 (no_index (Proc.devRef .tc main_v16)) = rowMin (table (V (Proc.devRef .tc main_arg0)) (V (Proc.devRef .tc main_arg1))) := by
  after_reads_simp [table_21]
  try rfl

theorem min_25 : upto line V 25 (no_index (Proc.devRef .tc main_v16)) = rowMin (table (V (Proc.devRef .tc main_arg0)) (V (Proc.devRef .tc main_arg1))) := by
  after_reads_simp [table_21]
  try rfl

theorem min_33 : upto line V 33 (no_index (Proc.devRef .tc main_v16)) = rowMin (table (V (Proc.devRef .tc main_arg0)) (V (Proc.devRef .tc main_arg1))) := by
  after_reads_simp [table_21]
  try rfl

theorem min_35 : upto line V 35 (no_index (Proc.devRef .tc main_v16)) = rowMin (table (V (Proc.devRef .tc main_arg0)) (V (Proc.devRef .tc main_arg1))) := by
  after_reads_simp [table_21]
  try rfl

theorem top_24 : upto line V 24 (no_index (Proc.devRef .tc main_v17)) = topMin (rowMin (table (V (Proc.devRef .tc main_arg0)) (V (Proc.devRef .tc main_arg1)))) := by
  after_reads_simp [min_23]
  try rfl

theorem first_38 : upto line V 38 (no_index (Proc.devRef .tc main_v22)) = firstRow (rowMin (table (V (Proc.devRef .tc main_arg0)) (V (Proc.devRef .tc main_arg1)))) := by
  after_reads_simp [top_24, min_25]
  try rfl

theorem first_40 : upto line V 40 (no_index (Proc.devRef .tc main_v22)) = firstRow (rowMin (table (V (Proc.devRef .tc main_arg0)) (V (Proc.devRef .tc main_arg1)))) := by
  after_reads_simp [top_24, min_25]
  try rfl

theorem first_41 : upto line V 41 (no_index (Proc.devRef .tc main_v22)) = firstRow (rowMin (table (V (Proc.devRef .tc main_arg0)) (V (Proc.devRef .tc main_arg1)))) := by
  after_reads_simp [top_24, min_25]
  try rfl

theorem wrap_50 : upto line V 50 (no_index (Proc.devRef .tc main_v28)) = wrapped (firstRow (rowMin (table (V (Proc.devRef .tc main_arg0)) (V (Proc.devRef .tc main_arg1))))) := by
  after_reads_simp [first_38, first_40, first_41]
  try rfl

theorem col_50 : upto line V 50 (no_index (Proc.devRef .tc main_v31)) = select (cmpi .slt (constantI S_ 32 0#32) (constantI S_ 32 0#32)) (addi (constantI S_ 32 0#32) (constantI S_ 32 64#32)) (constantI S_ 32 0#32) := by
  after_reads_simp
  try rfl

theorem starts_50 (h : ∀ k, ((![main_v28, main_v31] : Fin 2 → Ref sig .tc) k).ty = ⟨S_, .i32⟩) :
    indexContents ![main_v28, main_v31] ⟨S_, .i32⟩ h (upto line V 50) = starts (firstRow (rowMin (table (V (Proc.devRef .tc main_arg0)) (V (Proc.devRef .tc main_arg1))))) := by
  have h0 : indexContents ![main_v28, main_v31] ⟨S_, .i32⟩ h (upto line V 50) 0 = upto line V 50 (Proc.devRef .tc main_v28) := by
    generalize upto line V 50 = W
    rfl
  have h1 : indexContents ![main_v28, main_v31] ⟨S_, .i32⟩ h (upto line V 50) 1 = upto line V 50 (Proc.devRef .tc main_v31) := by
    generalize upto line V 50 = W
    rfl
  rw [wrap_50] at h0
  rw [col_50] at h1
  exact pair_eq (h0.trans (starts_zero _).symm) (h1.trans (starts_one _).symm)

theorem out_min : after line V (Proc.devRef .tc main_v23) = broadcastInDim S3136x1 ![0] bcast_S3136_S3136x1_0 (rowMin (table (V (Proc.devRef .tc main_arg0)) (V (Proc.devRef .tc main_arg1)))) := by
  after_reads_simp [min_33]
  try rfl

theorem out_top : after line V (Proc.devRef .tc main_v25) = broadcastInDim S1x1 ![] bcast_S_S1x1 (topMin (rowMin (table (V (Proc.devRef .tc main_arg0)) (V (Proc.devRef .tc main_arg1))))) := by
  after_reads_simp [min_35]
  try rfl

theorem out_row : after line V (Proc.devRef .tc main_v34) = rowPick (V (Proc.devRef .tc main_arg0)) (firstRow (rowMin (table (V (Proc.devRef .tc main_arg0)) (V (Proc.devRef .tc main_arg1))))) := by
  after_reads_simp [unaryIndexed_result_read]
  rw [starts_50]
  rfl

theorem out_arg0 : after line V (Proc.devRef .tc main_arg0) = (V (Proc.devRef .tc main_arg0)) := by
  after_reads_simp [min_33]
  try rfl

theorem out_arg1 : after line V (Proc.devRef .tc main_arg1) = (V (Proc.devRef .tc main_arg1)) := by
  after_reads_simp [min_33]
  try rfl

/-- The reference runs, and every buffer ends at what the line leaves in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after line (launchContents m c) (Proc.devRef .tc b) :=
  run_seq (by decide) (by decide) defs main (fun _ => line) main_line (fun _ => line_sub) m ρ

/-- The three arrays that the reference returns. -/
def outMin (x : FVec F S3136x64 .f32) (y : FVec F S65536x64 .f32) : FVec F S3136x1 .f32 :=
  broadcastInDim S3136x1 ![0] bcast_S3136_S3136x1_0 (rowMin (table x y))
def outTop (x : FVec F S3136x64 .f32) (y : FVec F S65536x64 .f32) : FVec F S1x1 .f32 :=
  broadcastInDim S1x1 ![] bcast_S_S1x1 (topMin (rowMin (table x y)))
def outRow (x : FVec F S3136x64 .f32) (y : FVec F S65536x64 .f32) : FVec F S1x64 .f32 :=
  rowPick x (firstRow (rowMin (table x y)))

/-- The reference runs: it returns those arrays of its arguments, and leaves the arguments as they were. -/
theorem returns (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = outMin (m ((c.tc : Thread nD τ).loc main_arg0)) (m ((c.tc : Thread nD τ).loc main_arg1))
      ∧ r.2.mem ((c.tc : Thread nD τ).loc main_v25) = outTop (m ((c.tc : Thread nD τ).loc main_arg0)) (m ((c.tc : Thread nD τ).loc main_arg1))
      ∧ r.2.mem ((c.tc : Thread nD τ).loc main_v34) = outRow (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (run m ρ) fun _ h c =>
    ⟨(h c main_v23).trans (out_min (launchContents m c)), (h c main_v25).trans (out_top (launchContents m c)),
      (h c main_v34).trans (out_row (launchContents m c)), (h c main_arg0).trans (out_arg0 (launchContents m c)),
      (h c main_arg1).trans (out_arg1 (launchContents m c))⟩

/-- The reference leaves its arguments as they were, and no counter raised. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  θ_run_mono (run m ρ) fun r h =>
    ⟨fun c => ⟨(h c main_arg0).trans (out_arg0 _), (h c main_arg1).trans (out_arg1 _)⟩, sem_eq_zero_of_no_sems (by decide) _⟩

end Cert.ReferenceIdeal.Hand
-- ==== Proof.RefVals.lean ====
/-
  The reference's tables over real inputs: the squared distances, their row minima, the largest of these, and the query
  row where it first stands.
-/
module

public import proofs.«01_k».proof.Proof.RefRun
public import proofs.«01_k».proof.Proof.First
public import Idealize.ShloMosaic.Lib.Pointwise
public import Idealize.ShloMosaic.Lib.DynamicIndex

@[expose] public section

set_option maxRecDepth 16384

noncomputable section

namespace Cert.ReferenceIdeal.Hand

open Idealize.ShloMosaic Cert.ReferenceIdeal Cert.ReferenceIdeal.Gen Cert.Hand

variable {P : Fin 3136 → Fin 64 → ℝ} {L : Fin 65536 → Fin 64 → ℝ}

section
variable {x : FVec Ideal S3136x64 .f32} {y : FVec Ideal S65536x64 .f32}
variable (hx : ∀ i k, x (ix2 i k) = ((P i k : ℝ) : EReal))
variable (hy : ∀ J k, y (ix2 J k) = ((L J k : ℝ) : EReal))
include hx hy

theorem table_eq (i : Fin 3136) (J : Fin 65536) : table (F := Ideal) x y (ix2 i J) = ((Cert.Hand.sq (P i) (L J) : ℝ) : EReal) := by
  have e : table (F := Ideal) x y (ix2 i J)
      = max ((∑ k, x (ix2 i k) * x (ix2 i k)) + (∑ k, y (ix2 J k) * y (ix2 J k))
          - Ideal.ofBits .f32 1073741824#32 * ∑ k, x (ix2 i k) * y (ix2 J k)) 0 := by
    pointwise [table]
  rw [e, c_two]
  simp only [hx, hy, ← EReal.coe_mul, coe_sum, ← EReal.coe_add, ← EReal.coe_sub, ← EReal.coe_zero, coe_max]
  rfl

theorem rowMin_eq (i : Fin 3136) : rowMin (F := Ideal) (table x y) (ix1 i) = ((best P L i : ℝ) : EReal) := by
  have e : rowMin (F := Ideal) (table x y) (ix1 i)
      = Finset.univ.fold min (Ideal.ofBits .f32 2139095040#32) (fun J => table (F := Ideal) x y (ix2 i J)) := by
    pointwise [rowMin]
  rw [e, c_top]
  simp only [table_eq hx hy]
  exact fold_min_coe _

end

section
variable {q : FVec Ideal S3136 .f32} {f : Fin 3136 → ℝ} (hq : ∀ i, q (ix1 i) = ((f i : ℝ) : EReal))
include hq

theorem topMin_eq : topMin (F := Ideal) q ix0 = ((greatest f : ℝ) : EReal) := by
  have e : topMin (F := Ideal) q ix0 = Finset.univ.fold max (Ideal.ofBits .f32 4286578688#32) (fun i => q (ix1 i)) := by
    pointwise [topMin]
  rw [e, c_bot]
  simp only [hq]
  exact fold_max_coe _

theorem firstRow_eq {i : Fin 3136} (hi : IsFirst (fun i : Fin 3136 => i.val) (fun i => f i = greatest f) i) :
    firstRow (F := Ideal) q = fun _ => BitVec.ofNat 32 i.val := by
  funext j
  rw [Subsingleton.elim j ix0]
  have e : firstRow (F := Ideal) q ix0 = Finset.univ.fold IntOp.minsi 2147483647#32 (fun j : Fin 3136 =>
      if q (ix1 j) = topMin (F := Ideal) q ix0 then BitVec.ofNat 32 j.val else BitVec.ofNat 32 3136) := by
    pointwise [firstRow]
  rw [e, topMin_eq hq]
  simp only [hq, EReal.coe_eq_coe_iff]
  exact fold_first (fun j : Fin 3136 => j.val) 3136 (by norm_num) (fun j => j.isLt) (fun j => f j = greatest f) hi

end

theorem starts_eq (i : Fin 3136) (a : Fin 2) (j : S_.Idx) :
    (starts (fun _ => BitVec.ofNat 32 i.val) a j).toInt = ((![i.val, 0] : Fin 2 → ℕ) a : ℤ) := by
  match a with
  | ⟨0, _⟩ => exact toInt_wrap_ofNat i.val (by have := i.isLt; omega)
  | ⟨1, _⟩ => exact toInt_wrap_ofNat (s := S_) (i := j) (d := constantI S_ 32 64#32) 0 (by norm_num)

theorem rowPick_eq (x : FVec Ideal S3136x64 .f32) (i : Fin 3136) (k : Fin 64) :
    rowPick (F := Ideal) x (fun _ => BitVec.ofNat 32 i.val) (ix2 0 k) = x (ix2 i k) := by
  have hs : S3136x64.Slices ![i.val, 0] S1x64 := ⟨rfl, fun a => by
    have := i.isLt
    match a with
    | ⟨0, _⟩ => show i.val + 1 ≤ 3136; omega
    | ⟨1, _⟩ => show 0 + 64 ≤ 64; omega⟩
  unfold rowPick
  rw [Host.dynamicSlice_eq_extractStridedSlice S1x64 x _ ![i.val, 0] sliceFits_S3136x64_S1x64 hs fun a => starts_eq i a _]
  pointwise

end Cert.ReferenceIdeal.Hand
-- ==== Proof.Meet.lean ====
/-
  The kernel's three results and the reference's three results are the same arrays over arguments that the precondition
  admits: the smallest squared distances, the largest of them, and the query row where it is first taken.
-/
module

public import proofs.«01_k».proof.Proof.Windows
public import proofs.«01_k».proof.Proof.Finite
public import proofs.«01_k».proof.Proof.RefVals

@[expose] public section

set_option maxRecDepth 16384

noncomputable section

namespace Cert.Hand

open Idealize.ShloMosaic

/-- What the kernel leaves, entry by entry. -/
theorem kernel_values (m : (ℓ : Loc Cert.KernelIdeal.nD Cert.KernelIdeal.τ Cert.KernelIdeal.sig) → Buf (Elt Ideal) ℓ)
    (c : Dev Cert.KernelIdeal.nD) {P : Fin 3136 → Fin 64 → ℝ} {L : Fin 65536 → Fin 64 → ℝ}
    (hx : ∀ i k, (m ((c.tc : Thread Cert.KernelIdeal.nD Cert.KernelIdeal.τ).loc Cert.KernelIdeal.main_arg0) : FVec Ideal Cert.KernelIdeal.S3136x64 .f32) (ix2 i k) = ((P i k : ℝ) : EReal))
    (hy : ∀ J k, (m ((c.tc : Thread Cert.KernelIdeal.nD Cert.KernelIdeal.τ).loc Cert.KernelIdeal.main_arg1) : FVec Ideal Cert.KernelIdeal.S65536x64 .f32) (ix2 J k) = ((L J k : ℝ) : EReal))
    {i : Fin 3136} (hi : IsFirst (fun i : Fin 3136 => i.val) (fun i => best P L i = greatest (best P L)) i) :
    (∀ r, (Cert.KernelIdeal.Value.G2 m c : FVec Ideal Cert.KernelIdeal.S3136x1 .f32) (ix2 r 0) = ((best P L r : ℝ) : EReal))
    ∧ (Cert.KernelIdeal.Value.G3 m c : FVec Ideal Cert.KernelIdeal.S1x1 .f32) (ix2 0 0) = ((greatest (best P L) : ℝ) : EReal)
    ∧ ∀ k, (Cert.KernelIdeal.Value.G4 m c : FVec Ideal Cert.KernelIdeal.S1x64 .f32) (ix2 0 k) = ((P i k : ℝ) : EReal) := by
  have ha : ∀ i k, Cert.KernelIdeal.Hand.queries m c (ix2 i k) = ((-2 * P i k : ℝ) : EReal) := by
    intro i k
    exact Cert.KernelIdeal.Hand.scaled (hx i k)
  let b : Fin 4 → Vec Ideal Cert.KernelIdeal.S16384x64 .f32 := fun t =>
    Cert.KernelIdeal.Gen.iblk m c 1 ⟨t.val, lt_of_lt_of_eq t.isLt Cert.KernelIdeal.Gen.N_0.symm⟩
  have hb : ∀ t j k, b t (ix2 j k) = ((L (Cert.KernelIdeal.Hand.libRow t j) k : ℝ) : EReal) := fun t j k =>
    (Cert.KernelIdeal.Hand.win1 m c _ j k).trans (hy _ k)
  obtain ⟨h2, h3, h4⟩ := Cert.KernelIdeal.Hand.results m (a := Cert.KernelIdeal.Hand.queries m c) (b := b)
    (fun t => Cert.KernelIdeal.Hand.win0 m c t) (fun t => rfl)
  refine ⟨fun r => ?_, ?_, fun k => ?_⟩
  · rw [h2]
    exact Cert.KernelIdeal.Hand.val_eq ha hb r
  · rw [h3]
    exact Cert.KernelIdeal.Hand.sd2_eq ha hb
  · rw [h4]
    exact Cert.KernelIdeal.Hand.rowOf_eq ha hb hi k

section
open Cert.ReferenceIdeal Cert.ReferenceIdeal.Gen Cert.ReferenceIdeal.Hand

/-- What the reference returns, entry by entry. -/
theorem reference_values {x : FVec Ideal S3136x64 .f32} {y : FVec Ideal S65536x64 .f32} {P : Fin 3136 → Fin 64 → ℝ}
    {L : Fin 65536 → Fin 64 → ℝ} (hx : ∀ i k, x (ix2 i k) = ((P i k : ℝ) : EReal)) (hy : ∀ J k, y (ix2 J k) = ((L J k : ℝ) : EReal))
    {i : Fin 3136} (hi : IsFirst (fun i : Fin 3136 => i.val) (fun i => best P L i = greatest (best P L)) i) :
    (∀ r, outMin (F := Ideal) x y (ix2 r 0) = ((best P L r : ℝ) : EReal))
    ∧ outTop (F := Ideal) x y (ix2 0 0) = ((greatest (best P L) : ℝ) : EReal)
    ∧ ∀ k, outRow (F := Ideal) x y (ix2 0 k) = ((P i k : ℝ) : EReal) := by
  refine ⟨fun r => ?_, ?_, fun k => ?_⟩
  · rw [← rowMin_eq hx hy r]
    pointwise [outMin]
  · rw [← topMin_eq (rowMin_eq hx hy)]
    pointwise [outTop]
  · unfold outRow
    rw [firstRow_eq (rowMin_eq hx hy) hi, rowPick_eq, hx]

end

/-- Two columns that agree entry by entry are equal, and so are two single entries and two rows. -/
theorem col_ext {n : ℕ} {α : Type} {u v : (⟨2, ![n, 1]⟩ : Shape).Idx → α} (h : ∀ r, u (ix2 r 0) = v (ix2 r 0)) : u = v := by
  funext x
  obtain ⟨r, k, rfl⟩ : ∃ r k, x = ix2 r k := ⟨x 0, x 1, by funext a; fin_cases a <;> rfl⟩
  rw [Subsingleton.elim k 0]
  exact h r

theorem row_ext {n : ℕ} {α : Type} {u v : (⟨2, ![1, n]⟩ : Shape).Idx → α} (h : ∀ k, u (ix2 0 k) = v (ix2 0 k)) : u = v := by
  funext x
  obtain ⟨r, k, rfl⟩ : ∃ r k, x = ix2 r k := ⟨x 0, x 1, by funext a; fin_cases a <;> rfl⟩
  rw [Subsingleton.elim r 0]
  exact h k

/-- Over arguments that the precondition admits, the kernel's results are the reference's. -/
theorem meet (m : (ℓ : Loc Cert.KernelIdeal.nD Cert.KernelIdeal.τ Cert.KernelIdeal.sig) → Buf (Elt Ideal) ℓ)
    (c : Dev Cert.KernelIdeal.nD) (x : FVec Ideal Cert.KernelIdeal.S3136x64 .f32) (y : FVec Ideal Cert.KernelIdeal.S65536x64 .f32)
    (hx : m ((c.tc : Thread Cert.KernelIdeal.nD Cert.KernelIdeal.τ).loc Cert.KernelIdeal.main_arg0) = x)
    (hy : m ((c.tc : Thread Cert.KernelIdeal.nD Cert.KernelIdeal.τ).loc Cert.KernelIdeal.main_arg1) = y)
    (h : Cert.Pre_finite.fn (F := Ideal) x y = fun _ => 1#1) :
    Cert.ReferenceIdeal.Hand.outMin (F := Ideal) x y = Cert.KernelIdeal.Value.G2 m c
    ∧ Cert.ReferenceIdeal.Hand.outTop (F := Ideal) x y = Cert.KernelIdeal.Value.G3 m c
    ∧ Cert.ReferenceIdeal.Hand.outRow (F := Ideal) x y = Cert.KernelIdeal.Value.G4 m c := by
  obtain ⟨P, L, hP, hL⟩ := reals x y h
  obtain ⟨i, hi⟩ := exists_first (fun i : Fin 3136 => i.val) (exists_greatest (best P L))
  obtain ⟨k2, k3, k4⟩ := kernel_values m c (P := P) (L := L) (fun i k => hx ▸ hP i k) (fun J k => hy ▸ hL J k) hi
  obtain ⟨r2, r3, r4⟩ := reference_values hP hL hi
  exact ⟨col_ext fun r => (r2 r).trans (k2 r).symm,
    row_ext fun k => by rw [Subsingleton.elim k 0]; exact r3.trans k3.symm,
    row_ext fun k => (r4 k).trans (k4 k).symm⟩

end Cert.Hand
-- ==== Proof.Second.lean ====
/-
  The second kernel's body, run once per kind of grid point: what each buffer it touches holds afterwards.
-/
module

public import proofs.«01_k».proof.Proof.Gen.Kernel2Ideal.Frame
public import proofs.«01_k».proof.Proof.Gen.Kernel2Ideal.Points
public import proofs.«01_k».proof.Proof.Gen.Kernel2Ideal.Skeleton
public import Idealize.ShloMosaic.Lib.VecWindow

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- A word clamped between zero and a positive bound is at most the bound. -/
theorem clamp_le (b v : BitVec 32) (h : b.toNat < 2 ^ 31) : (Scalar.minsi b (Scalar.maxsi (0#32) v)).toNat ≤ b.toNat := by
  unfold Scalar.minsi Scalar.maxsi IntOp.minsi IntOp.maxsi
  simp only [BitVec.slt, decide_eq_true_eq]
  have hb : b.toInt = b.toNat := BitVec.toInt_eq_toNat_of_lt (by omega)
  have h0 : (0#32).toInt = 0 := rfl
  have hv := BitVec.toInt_eq_toNat_cond v
  by_cases h1 : v.toInt < (0#32).toInt
  · rw [if_pos h1]
    split
    · exact le_rfl
    · exact Nat.zero_le _
  · rw [if_neg h1]
    split
    · exact le_rfl
    · split at hv <;> omega

/-- The lane read in a block is inside the block, whatever the word was. -/
theorem off3_in (v : BitVec 32) (a : Fin 2) : (k0_off3 v) a + S1x64.size a ≤ S16384x64.size a := by
  fin_cases a
  · exact Nat.add_le_add_right (clamp_le (16383#32) v (by decide)) 1
  · exact le_rfl

/-- The block read is one of the four, whatever the word was. -/
theorem off5_in (v : BitVec 32) (a : Fin 2) : (k0_off5 v) a + S1x64.size a ≤ S4x64.size a := by
  fin_cases a
  · exact Nat.add_le_add_right (clamp_le (3#32) v (by decide)) 1
  · exact le_rfl

theorem chk1 (i : grid0.Coords) (v : BitVec 32) : k0_chk1 i v := fun _ => off3_in v
theorem chk2 (i : grid0.Coords) (v : BitVec 32) : k0_chk2 i v := fun _ _ => off5_in v

/-- A load of a whole buffer reads its contents. -/
theorem full {s : Shape} {e : EltTy} (a : Memref sig .tc .vmem s e) (h : a.IsWhole) (x : s.Idx → Elt F e) {off : Fin s.rank → ℕ}
    (inb : ∀ k, off k + s.size k ≤ s.size k) : a.view.readAt (Elt F) (Rect.unit off s.size inb).toLoadRect (h.unread x) = x :=
  (View.readAt_full _ _ inb).trans (h.read_unread x)

/-- The lane of a block nearest the test row. -/
def lane (x5 : Vec F S16384x64 .f32) (x4 : Vec F S1x64 .f32) : BitVec 32 :=
  extractAt ![0, 0, 0] (k0_pay10 x5 (k0_pay2 x5) (iota .tc S1x16384 32 [1] iota_S1x16384_d1_w32) x4) inpos_S1x1x1_p0_0_0

/-- The block whose nearest row is nearest of all. -/
def pick (d11 : Vec F S4x1 .f32) : BitVec 32 := extractAt ![0, 0, 0] (k0_pay3 d11) inpos_S1x1x1_p0_0_0

/-- The distances of the test row to a block, put in the block's row. -/
def put9 (i : grid0.Coords) (x5 : Vec F S16384x64 .f32) (x4 : Vec F S1x64 .f32) (d9 : Vec F S4x16384 .f32) : Vec F S4x16384 .f32 :=
  VecWindow.put d9 (k0_off1 i) S1x16384.size (k0_pay8 x5 (k0_pay2 x5) x4)
/-- The block's row nearest the test row, put in the block's row of the candidates. -/
def put10 (i : grid0.Coords) (x5 : Vec F S16384x64 .f32) (x4 : Vec F S1x64 .f32) (d10 : Vec F S4x64 .f32) : Vec F S4x64 .f32 :=
  VecWindow.put d10 (k0_off4 i) S1x64.size (k0_pay12 (VecWindow.window x5 (k0_off3 (lane x5 x4)) S1x64.size (off3_in _)))
/-- The least distance of a block, put in the block's entry. -/
def put11 (i : grid0.Coords) (x5 : Vec F S16384x64 .f32) (x4 : Vec F S1x64 .f32) (d11 : Vec F S4x1 .f32) : Vec F S4x1 .f32 :=
  VecWindow.put d11 (k0_off2 i) S1x1.size (k0_pay11 x5 (k0_pay2 x5) x4)
/-- The candidate of the block whose least distance is the least. -/
def star (d10 : Vec F S4x64 .f32) (d11 : Vec F S4x1 .f32) : Vec F S1x64 .f32 :=
  k0_pay4 (VecWindow.window d10 (k0_off5 (pick d11)) S1x64.size (off5_in _))
/-- The distances of the chosen library row to a block, put in the block's row. -/
def put8 (i : grid0.Coords) (x5 : Vec F S16384x64 .f32) (d12 : Vec F S1x64 .f32) (d8 : Vec F S4x16384 .f32) : Vec F S4x16384 .f32 :=
  VecWindow.put d8 (k0_off6 i) S1x16384.size (k0_pay5 x5 d12)
/-- The score from the two tables of distances. -/
def score (x3 : Vec F S1x1 .f32) (d8 d9 : Vec F S4x16384 .f32) : Vec F S1x1 .f32 :=
  k0_pay6 d9 k0_pay13 (k0_pay14 d8) (k0_pay15 d8 d9) (k0_pay16 d8) (Scalar.ofBits .f32 0x7F800000#32) x3

set_option maxHeartbeats 1000000 in
/-- At the first point: the map, and the first block of the test row's distances. -/
theorem runA (c : Dev nD) (i : grid0.Coords)
    (arg1 : Memref sig .tc .vmem S56x56 .f32) (harg1 : arg1.IsWhole) (arg2 : Memref sig .tc .vmem S224x56 .f32) (harg2 : arg2.IsWhole)
    (arg3 : Memref sig .tc .vmem S1x1 .f32) (harg3 : arg3.IsWhole) (arg4 : Memref sig .tc .vmem S1x64 .f32) (harg4 : arg4.IsWhole)
    (arg5 : Memref sig .tc .vmem S16384x64 .f32) (harg5 : arg5.IsWhole) (arg6 : Memref sig .tc .vmem S1x1 .f32) (harg6 : arg6.IsWhole)
    (arg7 : Memref sig .tc .vmem S224x224 .f32) (harg7 : arg7.IsWhole) (arg8 : Memref sig .tc .vmem S4x16384 .f32) (harg8 : arg8.IsWhole)
    (arg9 : Memref sig .tc .vmem S4x16384 .f32) (harg9 : arg9.IsWhole) (arg10 : Memref sig .tc .vmem S4x64 .f32) (harg10 : arg10.IsWhole)
    (arg11 : Memref sig .tc .vmem S4x1 .f32) (harg11 : arg11.IsWhole) (arg12 : Memref sig .tc .vmem S1x64 .f32) (harg12 : arg12.IsWhole)
    (h1 : k0_cond1 i = 1#1) (h2 : k0_cond2 i = 1#1) (h3 : ¬k0_cond3 i = 1#1) (h4 : ¬k0_cond4 i = 1#1)
    (x1 : Vec F S56x56 .f32) (x2 : Vec F S224x56 .f32) (x4 : Vec F S1x64 .f32) (x5 : Vec F S16384x64 .f32) (x7 : Vec F S224x224 .f32) (d9 : Vec F S4x16384 .f32) (d10 : Vec F S4x64 .f32) (d11 : Vec F S4x1 .f32) (E : Set ℕ) (K : PUnit → sProp 𝕄) :
    iprop(owns (c : Thread nD τ) arg1 fullShare x1
        ∗ owns (c : Thread nD τ) arg2 fullShare x2
        ∗ owns (c : Thread nD τ) arg4 fullShare x4
        ∗ owns (c : Thread nD τ) arg5 fullShare x5
        ∗ owns (c : Thread nD τ) arg7 fullShare x7
        ∗ owns (c : Thread nD τ) arg9 fullShare d9
        ∗ owns (c : Thread nD τ) arg10 fullShare d10
        ∗ owns (c : Thread nD τ) arg11 fullShare d11
        ∗ (iprop(owns (c : Thread nD τ) arg1 fullShare x1
          ∗ owns (c : Thread nD τ) arg2 fullShare x2
          ∗ owns (c : Thread nD τ) arg4 fullShare x4
          ∗ owns (c : Thread nD τ) arg5 fullShare x5
          ∗ owns (c : Thread nD τ) arg7 fullShare (k0_pay1 x1 x2)
          ∗ owns (c : Thread nD τ) arg9 fullShare (put9 i x5 x4 d9)
          ∗ owns (c : Thread nD τ) arg10 fullShare (put10 i x5 x4 d10)
          ∗ owns (c : Thread nD τ) arg11 fullShare (put11 i x5 x4 d11)) -∗ K ⟨⟩))
      ⊢ wp frame (wpE (defs₀ (F := F)) Variants.none c none) E (cc0__reweight_body i arg1 harg1 arg2 harg2 arg3 harg3 arg4 harg4 arg5 harg5 arg6 harg6 arg7 harg7 arg8 harg8 arg9 harg9 arg10 harg10 arg11 harg11 arg12 harg12) K := by
  simp only [cc0__reweight_body_eq_skeleton]; unfold cc0__reweight_body_skel
  simp only [k0_part1_eq_skeleton, k0_part2_eq_skeleton]
  unfold owns
  iintro ⟨⟨%f1, %hf1, H1⟩, ⟨%f2, %hf2, H2⟩, ⟨%f4, %hf4, H4⟩, ⟨%f5, %hf5, H5⟩, ⟨%f7, %hf7, H7⟩, ⟨%f9, %hf9, H9⟩, ⟨%f10, %hf10, H10⟩, ⟨%f11, %hf11, H11⟩, Hk⟩
  obtain rfl := harg1.eq_unread hf1; obtain rfl := harg2.eq_unread hf2; obtain rfl := harg4.eq_unread hf4; obtain rfl := harg5.eq_unread hf5; obtain rfl := harg7.eq_unread hf7; obtain rfl := harg9.eq_unread hf9; obtain rfl := harg10.eq_unread hf10; obtain rfl := harg11.eq_unread hf11
  sl_exec (disch := first | sl_exact h1 | sl_exact h2 | sl_exact h3 | sl_exact h4 | exact chk1 _ _ | exact chk2 _ _)
  sl_step
  iapply Hk
  have e1 : View.readAt (Elt F) arg1.view (Rect.unit ![0, 0] ![56, 56] inb_S56x56_S56x56_0_0).toLoadRect (harg1.unread x1) = x1 := full _ _ _ _
  have e2 : View.readAt (Elt F) arg2.view (Rect.unit ![0, 0] ![224, 56] inb_S224x56_S224x56_0_0).toLoadRect (harg2.unread x2) = x2 := full _ _ _ _
  have e4 : View.readAt (Elt F) arg4.view (Rect.unit ![0, 0] ![1, 64] inb_S1x64_S1x64_0_0).toLoadRect (harg4.unread x4) = x4 := full _ _ _ _
  have e5 : View.readAt (Elt F) arg5.view (Rect.unit ![0, 0] ![16384, 64] inb_S16384x64_S16384x64_0_0).toLoadRect (harg5.unread x5) = x5 := full _ _ _ _
  have hv : runA.sl.v41 c arg4 harg4 arg5 harg5 x4 x5 = lane x5 x4 := by
    unfold runA.sl.v41 lane; simp only [full, e4, e5]
  have w : runA.sl.v50 c i arg4 harg4 arg5 harg5 h2 x4 x5 = VecWindow.window x5 (k0_off3 (lane x5 x4)) S1x64.size (off3_in _) := by
    unfold runA.sl.v50
    rw [View.readAt_unit arg5.view (harg5.unread x5) _ (congrArg k0_off3 hv) (off3_in _), harg5.read_unread]
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H7]
  · iexists _; isplitr
    swap; · iexact H7
    ipureintro
    rw [View.read_writes_full arg7.view]; simp only [e1, e2, e4, e5]
  isplitl [H9]
  · iexists _; isplitr
    swap; · iexact H9
    ipureintro
    unfold put9; rw [View.read_writes_cons_put _ _ _ _ _ rfl, View.writes_nil, harg9.read_unread]
    simp only [e1, e2, e4, e5]
  isplitl [H10]
  · iexists _; isplitr
    swap; · iexact H10
    ipureintro
    unfold put10; rw [View.read_writes_cons_put _ _ _ _ _ rfl, View.writes_nil, harg10.read_unread, w]
  iexists _; isplitr
  swap; · iexact H11
  ipureintro
  unfold put11; rw [View.read_writes_cons_put _ _ _ _ _ rfl, View.writes_nil, harg11.read_unread]
  simp only [e1, e2, e4, e5]

set_option maxHeartbeats 1000000 in
/-- At a later point of the first pass: one block of the test row's distances. -/
theorem runB (c : Dev nD) (i : grid0.Coords)
    (arg1 : Memref sig .tc .vmem S56x56 .f32) (harg1 : arg1.IsWhole) (arg2 : Memref sig .tc .vmem S224x56 .f32) (harg2 : arg2.IsWhole)
    (arg3 : Memref sig .tc .vmem S1x1 .f32) (harg3 : arg3.IsWhole) (arg4 : Memref sig .tc .vmem S1x64 .f32) (harg4 : arg4.IsWhole)
    (arg5 : Memref sig .tc .vmem S16384x64 .f32) (harg5 : arg5.IsWhole) (arg6 : Memref sig .tc .vmem S1x1 .f32) (harg6 : arg6.IsWhole)
    (arg7 : Memref sig .tc .vmem S224x224 .f32) (harg7 : arg7.IsWhole) (arg8 : Memref sig .tc .vmem S4x16384 .f32) (harg8 : arg8.IsWhole)
    (arg9 : Memref sig .tc .vmem S4x16384 .f32) (harg9 : arg9.IsWhole) (arg10 : Memref sig .tc .vmem S4x64 .f32) (harg10 : arg10.IsWhole)
    (arg11 : Memref sig .tc .vmem S4x1 .f32) (harg11 : arg11.IsWhole) (arg12 : Memref sig .tc .vmem S1x64 .f32) (harg12 : arg12.IsWhole)
    (h1 : ¬k0_cond1 i = 1#1) (h2 : k0_cond2 i = 1#1) (h3 : ¬k0_cond3 i = 1#1) (h4 : ¬k0_cond4 i = 1#1)
    (x4 : Vec F S1x64 .f32) (x5 : Vec F S16384x64 .f32) (d9 : Vec F S4x16384 .f32) (d10 : Vec F S4x64 .f32) (d11 : Vec F S4x1 .f32) (E : Set ℕ) (K : PUnit → sProp 𝕄) :
    iprop(owns (c : Thread nD τ) arg4 fullShare x4
        ∗ owns (c : Thread nD τ) arg5 fullShare x5
        ∗ owns (c : Thread nD τ) arg9 fullShare d9
        ∗ owns (c : Thread nD τ) arg10 fullShare d10
        ∗ owns (c : Thread nD τ) arg11 fullShare d11
        ∗ (iprop(owns (c : Thread nD τ) arg4 fullShare x4
          ∗ owns (c : Thread nD τ) arg5 fullShare x5
          ∗ owns (c : Thread nD τ) arg9 fullShare (put9 i x5 x4 d9)
          ∗ owns (c : Thread nD τ) arg10 fullShare (put10 i x5 x4 d10)
          ∗ owns (c : Thread nD τ) arg11 fullShare (put11 i x5 x4 d11)) -∗ K ⟨⟩))
      ⊢ wp frame (wpE (defs₀ (F := F)) Variants.none c none) E (cc0__reweight_body i arg1 harg1 arg2 harg2 arg3 harg3 arg4 harg4 arg5 harg5 arg6 harg6 arg7 harg7 arg8 harg8 arg9 harg9 arg10 harg10 arg11 harg11 arg12 harg12) K := by
  simp only [cc0__reweight_body_eq_skeleton]; unfold cc0__reweight_body_skel
  simp only [k0_part1_eq_skeleton, k0_part2_eq_skeleton]
  unfold owns
  iintro ⟨⟨%f4, %hf4, H4⟩, ⟨%f5, %hf5, H5⟩, ⟨%f9, %hf9, H9⟩, ⟨%f10, %hf10, H10⟩, ⟨%f11, %hf11, H11⟩, Hk⟩
  obtain rfl := harg4.eq_unread hf4; obtain rfl := harg5.eq_unread hf5; obtain rfl := harg9.eq_unread hf9; obtain rfl := harg10.eq_unread hf10; obtain rfl := harg11.eq_unread hf11
  sl_exec (disch := first | sl_exact h1 | sl_exact h2 | sl_exact h3 | sl_exact h4 | exact chk1 _ _ | exact chk2 _ _)
  sl_step
  iapply Hk
  have e4 : View.readAt (Elt F) arg4.view (Rect.unit ![0, 0] ![1, 64] inb_S1x64_S1x64_0_0).toLoadRect (harg4.unread x4) = x4 := full _ _ _ _
  have e5 : View.readAt (Elt F) arg5.view (Rect.unit ![0, 0] ![16384, 64] inb_S16384x64_S16384x64_0_0).toLoadRect (harg5.unread x5) = x5 := full _ _ _ _
  have hv : runB.sl.v41 c arg4 harg4 arg5 harg5 x4 x5 = lane x5 x4 := by
    unfold runB.sl.v41 lane; simp only [full, e4, e5]
  have w : runB.sl.v50 c i arg4 harg4 arg5 harg5 h2 x4 x5 = VecWindow.window x5 (k0_off3 (lane x5 x4)) S1x64.size (off3_in _) := by
    unfold runB.sl.v50
    rw [View.readAt_unit arg5.view (harg5.unread x5) _ (congrArg k0_off3 hv) (off3_in _), harg5.read_unread]
  isplitl [H4]
  · iexists _; isplitr; · ipureintro; exact harg4.read_unread _
    iexact H4
  isplitl [H5]
  · iexists _; isplitr; · ipureintro; exact harg5.read_unread _
    iexact H5
  isplitl [H9]
  · iexists _; isplitr
    swap; · iexact H9
    ipureintro
    unfold put9; rw [View.read_writes_cons_put _ _ _ _ _ rfl, View.writes_nil, harg9.read_unread]
    simp only [e4, e5]
  isplitl [H10]
  · iexists _; isplitr
    swap; · iexact H10
    ipureintro
    unfold put10; rw [View.read_writes_cons_put _ _ _ _ _ rfl, View.writes_nil, harg10.read_unread, w]
  iexists _; isplitr
  swap; · iexact H11
  ipureintro
  unfold put11; rw [View.read_writes_cons_put _ _ _ _ _ rfl, View.writes_nil, harg11.read_unread]
  simp only [e4, e5]

set_option maxHeartbeats 1000000 in
/-- At the last point of the first pass: the last block, then the row nearest of all. -/
theorem runC (c : Dev nD) (i : grid0.Coords)
    (arg1 : Memref sig .tc .vmem S56x56 .f32) (harg1 : arg1.IsWhole) (arg2 : Memref sig .tc .vmem S224x56 .f32) (harg2 : arg2.IsWhole)
    (arg3 : Memref sig .tc .vmem S1x1 .f32) (harg3 : arg3.IsWhole) (arg4 : Memref sig .tc .vmem S1x64 .f32) (harg4 : arg4.IsWhole)
    (arg5 : Memref sig .tc .vmem S16384x64 .f32) (harg5 : arg5.IsWhole) (arg6 : Memref sig .tc .vmem S1x1 .f32) (harg6 : arg6.IsWhole)
    (arg7 : Memref sig .tc .vmem S224x224 .f32) (harg7 : arg7.IsWhole) (arg8 : Memref sig .tc .vmem S4x16384 .f32) (harg8 : arg8.IsWhole)
    (arg9 : Memref sig .tc .vmem S4x16384 .f32) (harg9 : arg9.IsWhole) (arg10 : Memref sig .tc .vmem S4x64 .f32) (harg10 : arg10.IsWhole)
    (arg11 : Memref sig .tc .vmem S4x1 .f32) (harg11 : arg11.IsWhole) (arg12 : Memref sig .tc .vmem S1x64 .f32) (harg12 : arg12.IsWhole)
    (h1 : ¬k0_cond1 i = 1#1) (h2 : k0_cond2 i = 1#1) (h3 : k0_cond3 i = 1#1) (h4 : ¬k0_cond4 i = 1#1)
    (x4 : Vec F S1x64 .f32) (x5 : Vec F S16384x64 .f32) (d9 : Vec F S4x16384 .f32) (d10 : Vec F S4x64 .f32) (d11 : Vec F S4x1 .f32) (d12 : Vec F S1x64 .f32) (E : Set ℕ) (K : PUnit → sProp 𝕄) :
    iprop(owns (c : Thread nD τ) arg4 fullShare x4
        ∗ owns (c : Thread nD τ) arg5 fullShare x5
        ∗ owns (c : Thread nD τ) arg9 fullShare d9
        ∗ owns (c : Thread nD τ) arg10 fullShare d10
        ∗ owns (c : Thread nD τ) arg11 fullShare d11
        ∗ owns (c : Thread nD τ) arg12 fullShare d12
        ∗ (iprop(owns (c : Thread nD τ) arg4 fullShare x4
          ∗ owns (c : Thread nD τ) arg5 fullShare x5
          ∗ owns (c : Thread nD τ) arg9 fullShare (put9 i x5 x4 d9)
          ∗ owns (c : Thread nD τ) arg10 fullShare (put10 i x5 x4 d10)
          ∗ owns (c : Thread nD τ) arg11 fullShare (put11 i x5 x4 d11)
          ∗ owns (c : Thread nD τ) arg12 fullShare (star (put10 i x5 x4 d10) (put11 i x5 x4 d11))) -∗ K ⟨⟩))
      ⊢ wp frame (wpE (defs₀ (F := F)) Variants.none c none) E (cc0__reweight_body i arg1 harg1 arg2 harg2 arg3 harg3 arg4 harg4 arg5 harg5 arg6 harg6 arg7 harg7 arg8 harg8 arg9 harg9 arg10 harg10 arg11 harg11 arg12 harg12) K := by
  simp only [cc0__reweight_body_eq_skeleton]; unfold cc0__reweight_body_skel
  simp only [k0_part1_eq_skeleton, k0_part2_eq_skeleton]
  unfold owns
  iintro ⟨⟨%f4, %hf4, H4⟩, ⟨%f5, %hf5, H5⟩, ⟨%f9, %hf9, H9⟩, ⟨%f10, %hf10, H10⟩, ⟨%f11, %hf11, H11⟩, ⟨%f12, %hf12, H12⟩, Hk⟩
  obtain rfl := harg4.eq_unread hf4; obtain rfl := harg5.eq_unread hf5; obtain rfl := harg9.eq_unread hf9; obtain rfl := harg10.eq_unread hf10; obtain rfl := harg11.eq_unread hf11; obtain rfl := harg12.eq_unread hf12
  sl_exec (disch := first | sl_exact h1 | sl_exact h2 | sl_exact h3 | sl_exact h4 | exact chk1 _ _ | exact chk2 _ _)
  sl_step
  iapply Hk
  have e4 : View.readAt (Elt F) arg4.view (Rect.unit ![0, 0] ![1, 64] inb_S1x64_S1x64_0_0).toLoadRect (harg4.unread x4) = x4 := full _ _ _ _
  have e5 : View.readAt (Elt F) arg5.view (Rect.unit ![0, 0] ![16384, 64] inb_S16384x64_S16384x64_0_0).toLoadRect (harg5.unread x5) = x5 := full _ _ _ _
  have hv : runC.sl.v41 c arg4 harg4 arg5 harg5 x4 x5 = lane x5 x4 := by
    unfold runC.sl.v41 lane; simp only [full, e4, e5]
  have w : runC.sl.v50 c i arg4 harg4 arg5 harg5 h2 x4 x5 = VecWindow.window x5 (k0_off3 (lane x5 x4)) S1x64.size (off3_in _) := by
    unfold runC.sl.v50
    rw [View.readAt_unit arg5.view (harg5.unread x5) _ (congrArg k0_off3 hv) (off3_in _), harg5.read_unread]
  have m10 : arg10.view.read (Elt F) (arg10.view.writes (Elt F) (harg10.unread d10) (runC.sl.H10_1 c i arg4 harg4 arg5 harg5 h2 x4 x5)) = put10 i x5 x4 d10 := by
    unfold runC.sl.H10_1 put10; rw [View.read_writes_cons_put _ _ _ _ _ rfl, View.writes_nil, harg10.read_unread, w]
  have m11 : arg11.view.read (Elt F) (arg11.view.writes (Elt F) (harg11.unread d11) (runC.sl.H11_1 c i arg4 harg4 arg5 harg5 h2 x4 x5)) = put11 i x5 x4 d11 := by
    unfold runC.sl.H11_1 put11; rw [View.read_writes_cons_put _ _ _ _ _ rfl, View.writes_nil, harg11.read_unread]
    simp only [full, e4, e5]
  have r11 : runC.sl.v58 c i arg4 harg4 arg5 harg5 arg11 harg11 h2 x4 x5 d11 = put11 i x5 x4 d11 := (View.readAt_full arg11.view _ _).trans m11
  have hp : extractAt ![0, 0, 0] (k0_pay3 (runC.sl.v58 c i arg4 harg4 arg5 harg5 arg11 harg11 h2 x4 x5 d11)) inpos_S1x1x1_p0_0_0
      = pick (put11 i x5 x4 d11) := congrArg pick r11
  have w2 : runC.sl.v75 c i arg4 harg4 arg5 harg5 arg10 harg10 arg11 harg11 h2 h3 x4 x5 d10 d11
      = VecWindow.window (put10 i x5 x4 d10) (k0_off5 (pick (put11 i x5 x4 d11))) ![1, 64] (off5_in _) := by
    unfold runC.sl.v75
    rw [View.readAt_unit (size := ![1, 64]) arg10.view _ _ (congrArg k0_off5 hp) (off5_in _), m10]
  isplitl [H4]
  · iexists _; isplitr; · ipureintro; exact harg4.read_unread _
    iexact H4
  isplitl [H5]
  · iexists _; isplitr; · ipureintro; exact harg5.read_unread _
    iexact H5
  isplitl [H9]
  · iexists _; isplitr
    swap; · iexact H9
    ipureintro
    unfold put9; rw [View.read_writes_cons_put _ _ _ _ _ rfl, View.writes_nil, harg9.read_unread]
    simp only [e4, e5]
  isplitl [H10]
  · iexists _; isplitr
    swap; · iexact H10
    ipureintro
    exact m10
  isplitl [H11]
  · iexists _; isplitr
    swap; · iexact H11
    ipureintro
    exact m11
  iexists _; isplitr
  swap; · iexact H12
  ipureintro
  rw [View.read_writes_full arg12.view, w2]; rfl

set_option maxHeartbeats 1000000 in
/-- At a point of the second pass: one block of the chosen row's distances. -/
theorem runD (c : Dev nD) (i : grid0.Coords)
    (arg1 : Memref sig .tc .vmem S56x56 .f32) (harg1 : arg1.IsWhole) (arg2 : Memref sig .tc .vmem S224x56 .f32) (harg2 : arg2.IsWhole)
    (arg3 : Memref sig .tc .vmem S1x1 .f32) (harg3 : arg3.IsWhole) (arg4 : Memref sig .tc .vmem S1x64 .f32) (harg4 : arg4.IsWhole)
    (arg5 : Memref sig .tc .vmem S16384x64 .f32) (harg5 : arg5.IsWhole) (arg6 : Memref sig .tc .vmem S1x1 .f32) (harg6 : arg6.IsWhole)
    (arg7 : Memref sig .tc .vmem S224x224 .f32) (harg7 : arg7.IsWhole) (arg8 : Memref sig .tc .vmem S4x16384 .f32) (harg8 : arg8.IsWhole)
    (arg9 : Memref sig .tc .vmem S4x16384 .f32) (harg9 : arg9.IsWhole) (arg10 : Memref sig .tc .vmem S4x64 .f32) (harg10 : arg10.IsWhole)
    (arg11 : Memref sig .tc .vmem S4x1 .f32) (harg11 : arg11.IsWhole) (arg12 : Memref sig .tc .vmem S1x64 .f32) (harg12 : arg12.IsWhole)
    (h1 : ¬k0_cond1 i = 1#1) (h2 : ¬k0_cond2 i = 1#1) (h4 : k0_cond4 i = 1#1) (h5 : ¬k0_cond5 i = 1#1)
    (x5 : Vec F S16384x64 .f32) (d8 : Vec F S4x16384 .f32) (d12 : Vec F S1x64 .f32) (E : Set ℕ) (K : PUnit → sProp 𝕄) :
    iprop(owns (c : Thread nD τ) arg5 fullShare x5
        ∗ owns (c : Thread nD τ) arg8 fullShare d8
        ∗ owns (c : Thread nD τ) arg12 fullShare d12
        ∗ (iprop(owns (c : Thread nD τ) arg5 fullShare x5
          ∗ owns (c : Thread nD τ) arg8 fullShare (put8 i x5 d12 d8)
          ∗ owns (c : Thread nD τ) arg12 fullShare d12) -∗ K ⟨⟩))
      ⊢ wp frame (wpE (defs₀ (F := F)) Variants.none c none) E (cc0__reweight_body i arg1 harg1 arg2 harg2 arg3 harg3 arg4 harg4 arg5 harg5 arg6 harg6 arg7 harg7 arg8 harg8 arg9 harg9 arg10 harg10 arg11 harg11 arg12 harg12) K := by
  simp only [cc0__reweight_body_eq_skeleton]; unfold cc0__reweight_body_skel
  simp only [k0_part1_eq_skeleton, k0_part2_eq_skeleton]
  unfold owns
  iintro ⟨⟨%f5, %hf5, H5⟩, ⟨%f8, %hf8, H8⟩, ⟨%f12, %hf12, H12⟩, Hk⟩
  obtain rfl := harg5.eq_unread hf5; obtain rfl := harg8.eq_unread hf8; obtain rfl := harg12.eq_unread hf12
  sl_exec (disch := first | sl_exact h1 | sl_exact h2 | sl_exact h4 | sl_exact h5 | exact chk1 _ _ | exact chk2 _ _)
  sl_step
  iapply Hk
  have e5 : View.readAt (Elt F) arg5.view (Rect.unit ![0, 0] ![16384, 64] inb_S16384x64_S16384x64_0_0).toLoadRect (harg5.unread x5) = x5 := full _ _ _ _
  have e12 : View.readAt (Elt F) arg12.view (Rect.unit ![0, 0] ![1, 64] inb_S1x64_S1x64_0_0).toLoadRect (harg12.unread d12) = d12 := full _ _ _ _
  isplitl [H5]
  · iexists _; isplitr; · ipureintro; exact harg5.read_unread _
    iexact H5
  isplitl [H8]
  · iexists _; isplitr
    swap; · iexact H8
    ipureintro
    unfold put8; rw [View.read_writes_cons_put _ _ _ _ _ rfl, View.writes_nil, harg8.read_unread]
    simp only [e5, e12]
  iexists _; isplitr; · ipureintro; exact harg12.read_unread _
  iexact H12

set_option maxHeartbeats 1000000 in
/-- At the last point: the last block, then the score. -/
theorem runE (c : Dev nD) (i : grid0.Coords)
    (arg1 : Memref sig .tc .vmem S56x56 .f32) (harg1 : arg1.IsWhole) (arg2 : Memref sig .tc .vmem S224x56 .f32) (harg2 : arg2.IsWhole)
    (arg3 : Memref sig .tc .vmem S1x1 .f32) (harg3 : arg3.IsWhole) (arg4 : Memref sig .tc .vmem S1x64 .f32) (harg4 : arg4.IsWhole)
    (arg5 : Memref sig .tc .vmem S16384x64 .f32) (harg5 : arg5.IsWhole) (arg6 : Memref sig .tc .vmem S1x1 .f32) (harg6 : arg6.IsWhole)
    (arg7 : Memref sig .tc .vmem S224x224 .f32) (harg7 : arg7.IsWhole) (arg8 : Memref sig .tc .vmem S4x16384 .f32) (harg8 : arg8.IsWhole)
    (arg9 : Memref sig .tc .vmem S4x16384 .f32) (harg9 : arg9.IsWhole) (arg10 : Memref sig .tc .vmem S4x64 .f32) (harg10 : arg10.IsWhole)
    (arg11 : Memref sig .tc .vmem S4x1 .f32) (harg11 : arg11.IsWhole) (arg12 : Memref sig .tc .vmem S1x64 .f32) (harg12 : arg12.IsWhole)
    (h1 : ¬k0_cond1 i = 1#1) (h2 : ¬k0_cond2 i = 1#1) (h4 : k0_cond4 i = 1#1) (h5 : k0_cond5 i = 1#1) (ho : k0_off6 i = ![3, 0])
    (x3 : Vec F S1x1 .f32) (x5 : Vec F S16384x64 .f32) (x6 : Vec F S1x1 .f32) (d8 : Vec F S4x16384 .f32) (d9 : Vec F S4x16384 .f32) (d12 : Vec F S1x64 .f32) (E : Set ℕ) (K : PUnit → sProp 𝕄) :
    iprop(owns (c : Thread nD τ) arg3 fullShare x3
        ∗ owns (c : Thread nD τ) arg5 fullShare x5
        ∗ owns (c : Thread nD τ) arg6 fullShare x6
        ∗ owns (c : Thread nD τ) arg8 fullShare d8
        ∗ owns (c : Thread nD τ) arg9 fullShare d9
        ∗ owns (c : Thread nD τ) arg12 fullShare d12
        ∗ (iprop(owns (c : Thread nD τ) arg3 fullShare x3
          ∗ owns (c : Thread nD τ) arg5 fullShare x5
          ∗ owns (c : Thread nD τ) arg6 fullShare (score x3 (put8 i x5 d12 d8) d9)
          ∗ owns (c : Thread nD τ) arg8 fullShare (put8 i x5 d12 d8)
          ∗ owns (c : Thread nD τ) arg9 fullShare d9
          ∗ owns (c : Thread nD τ) arg12 fullShare d12) -∗ K ⟨⟩))
      ⊢ wp frame (wpE (defs₀ (F := F)) Variants.none c none) E (cc0__reweight_body i arg1 harg1 arg2 harg2 arg3 harg3 arg4 harg4 arg5 harg5 arg6 harg6 arg7 harg7 arg8 harg8 arg9 harg9 arg10 harg10 arg11 harg11 arg12 harg12) K := by
  simp only [cc0__reweight_body_eq_skeleton]; unfold cc0__reweight_body_skel
  simp only [k0_part1_eq_skeleton, k0_part2_eq_skeleton]
  unfold owns
  iintro ⟨⟨%f3, %hf3, H3⟩, ⟨%f5, %hf5, H5⟩, ⟨%f6, %hf6, H6⟩, ⟨%f8, %hf8, H8⟩, ⟨%f9, %hf9, H9⟩, ⟨%f12, %hf12, H12⟩, Hk⟩
  obtain rfl := harg3.eq_unread hf3; obtain rfl := harg5.eq_unread hf5; obtain rfl := harg6.eq_unread hf6; obtain rfl := harg8.eq_unread hf8; obtain rfl := harg9.eq_unread hf9; obtain rfl := harg12.eq_unread hf12
  letI : ClosedOff (k0_off6 i) := ⟨![3, 0], ho⟩
  sl_exec (disch := first | sl_exact h1 | sl_exact h2 | sl_exact h4 | sl_exact h5 | exact chk1 _ _ | exact chk2 _ _)
  sl_step
  iapply Hk
  have e3 : View.readAt (Elt F) arg3.view (Rect.unit ![0, 0] ![1, 1] inb_S1x1_S1x1_0_0).toLoadRect (harg3.unread x3) = x3 := full _ _ _ _
  have e5 : View.readAt (Elt F) arg5.view (Rect.unit ![0, 0] ![16384, 64] inb_S16384x64_S16384x64_0_0).toLoadRect (harg5.unread x5) = x5 := full _ _ _ _
  have e12 : View.readAt (Elt F) arg12.view (Rect.unit ![0, 0] ![1, 64] inb_S1x64_S1x64_0_0).toLoadRect (harg12.unread d12) = d12 := full _ _ _ _
  have e9 : View.readAt (Elt F) arg9.view (Rect.unit ![0, 0] ![4, 16384] inb_S4x16384_S4x16384_0_0).toLoadRect (harg9.unread d9) = d9 := full _ _ _ _
  have m8 : arg8.view.read (Elt F) (arg8.view.writes (Elt F) (harg8.unread d8) (runE.sl.H8_1 c i arg5 harg5 arg12 harg12 h4 x5 d12)) = put8 i x5 d12 d8 := by
    unfold runE.sl.H8_1 put8; rw [View.read_writes_cons_put _ _ _ _ _ rfl, View.writes_nil, harg8.read_unread]
    simp only [full, e5, e12]
  have r0 : runE.sl.r c arg9 harg9 d9 = d9 := full _ _ _ _
  have r8 := (View.readAt_full arg8.view (arg8.view.writes (Elt F) (harg8.unread d8) (runE.sl.H8_1 c i arg5 harg5 arg12 harg12 h4 x5 d12)) inb_S4x16384_S4x16384_0_0).trans m8
  have r1 : runE.sl.r_1 c i arg5 harg5 arg8 harg8 arg12 harg12 h4 x5 d8 d12 = k0_pay14 (put8 i x5 d12 d8) := congrArg k0_pay14 r8
  have r2 : runE.sl.r_2 c i arg5 harg5 arg8 harg8 arg9 harg9 arg12 harg12 h4 x5 d8 d9 d12 = k0_pay15 (put8 i x5 d12 d8) d9 := congrArg₂ k0_pay15 r8 r0
  have r3 : runE.sl.r_3 c i arg5 harg5 arg8 harg8 arg12 harg12 h4 x5 d8 d12 = k0_pay16 (put8 i x5 d12 d8) := congrArg k0_pay16 r8
  isplitl [H3]
  · iexists _; isplitr; · ipureintro; exact harg3.read_unread _
    iexact H3
  isplitl [H5]
  · iexists _; isplitr; · ipureintro; exact harg5.read_unread _
    iexact H5
  isplitl [H6]
  · iexists _; isplitr
    swap; · iexact H6
    ipureintro
    rw [View.read_writes_full arg6.view, r0, r1, r2, r3]; unfold score; simp only [full, e3]; rfl
  isplitl [H8]
  · iexists _; isplitr
    swap; · iexact H8
    ipureintro
    exact m8
  isplitl [H9]
  · iexists _; isplitr; · ipureintro; exact harg9.read_unread _
    iexact H9
  iexists _; isplitr; · ipureintro; exact harg12.read_unread _
  iexact H12

end Cert.Kernel2Ideal.Hand

end
-- ==== Proof.Region.lean ====
/-
  The second kernel over its grid: what the scratch tables hold before every point, the pipeline's proof data with the two
  results, the body's obligation at every point, and the launch.
-/
module

public import proofs.«01_k».proof.Proof.Second
public import Idealize.ShloMosaic.Lib.Claim
public import Idealize.ShloMosaic.Lib.Pointwise

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ### Tables filled row by row -/

section
variable {k : ℕ} {α : Type}

/-- The table with the given four rows. -/
def rows (W : Fin 4 → (⟨2, ![1, k]⟩ : Shape).Idx → α) : (⟨2, ![4, k]⟩ : Shape).Idx → α := fun i => W (i 0) (ix2 0 (i 1))

/-- The table `d` agrees with `D` on the first `n` rows. -/
def Upto (n : ℕ) (D d : (⟨2, ![4, k]⟩ : Shape).Idx → α) : Prop := ∀ i, (i 0).val < n → d i = D i

theorem Upto.all {n : ℕ} {D d : (⟨2, ![4, k]⟩ : Shape).Idx → α} (h : Upto n D d) (hn : 4 ≤ n) : d = D :=
  funext fun i => h i (lt_of_lt_of_le (i 0).isLt hn)

theorem Upto.more {n : ℕ} {D d : (⟨2, ![4, k]⟩ : Shape).Idx → α} (h : Upto n D d) (hn : 4 ≤ n) : Upto (n + 1) D d :=
  fun i _ => congrFun (h.all hn) i

theorem upto_zero {D d : (⟨2, ![4, k]⟩ : Shape).Idx → α} {n : ℕ} (hn : n = 0) : Upto n D d := fun i hi => by omega

/-- Putting the next row makes the table agree on one more. -/
theorem upto_put {W : Fin 4 → (⟨2, ![1, k]⟩ : Shape).Idx → α} {d : (⟨2, ![4, k]⟩ : Shape).Idx → α} {n : ℕ} (hn : n < 4)
    (h : Upto n (rows W) d) {off : Fin 2 → ℕ} (ho : off = ![n, 0]) (w : (⟨2, ![1, k]⟩ : Shape).Idx → α) (hw : w = W ⟨n, hn⟩) :
    Upto (n + 1) (rows W) (VecWindow.put (s := ⟨2, ![4, k]⟩) d off (⟨2, ![1, k]⟩ : Shape).size w) := by
  subst ho hw
  intro i hi
  unfold VecWindow.put
  by_cases hc : (i 0).val = n
  · have hin : ∀ a, (![n, 0] : Fin 2 → ℕ) a ≤ (i a).val ∧ (i a).val < (![n, 0] : Fin 2 → ℕ) a + (⟨2, ![1, k]⟩ : Shape).size a := by
      intro a
      fin_cases a
      · exact ⟨hc.ge, by show (i 0).val < n + 1; omega⟩
      · exact ⟨Nat.zero_le _, by show (i 1).val < 0 + k; have := (i 1).isLt; change (i 1).val < k at this; omega⟩
    rw [dif_pos hin]
    unfold rows
    rw [show i 0 = (⟨n, hn⟩ : Fin 4) from Fin.ext hc]
    congr 1
    funext a
    fin_cases a
    · exact Fin.ext (by show (i 0).val - n = 0; omega)
    · exact Fin.ext (by show (i 1).val - 0 = (i 1).val; omega)
  · rw [dif_neg fun hin => hc (by have h0 : n ≤ (i 0).val := (hin 0).1; omega)]
    exact h i (by omega)
end

/-! ### The grid's points -/

theorem c1_iff : ∀ t : Fin cfg0.N, k0_cond1 (grid0.coords t) = 1#1 ↔ t.val = 0 := by decide +kernel
theorem c2_iff : ∀ t : Fin cfg0.N, k0_cond2 (grid0.coords t) = 1#1 ↔ t.val < 4 := by decide +kernel
theorem c3_iff : ∀ t : Fin cfg0.N, k0_cond3 (grid0.coords t) = 1#1 ↔ t.val = 3 := by decide +kernel
theorem c4_iff : ∀ t : Fin cfg0.N, k0_cond4 (grid0.coords t) = 1#1 ↔ 4 ≤ t.val := by decide +kernel
theorem c5_iff : ∀ t : Fin cfg0.N, k0_cond5 (grid0.coords t) = 1#1 ↔ t.val = 7 := by decide +kernel
theorem off1_eq : ∀ t : Fin cfg0.N, k0_off1 (grid0.coords t) = ![t.val, 0] := by decide +kernel
theorem off2_eq : ∀ t : Fin cfg0.N, k0_off2 (grid0.coords t) = ![t.val, 0] := by decide +kernel
theorem off4_eq : ∀ t : Fin cfg0.N, k0_off4 (grid0.coords t) = ![t.val, 0] := by decide +kernel
theorem off6_eq : ∀ t : Fin cfg0.N, 4 ≤ t.val → k0_off6 (grid0.coords t) = ![t.val - 4, 0] := by decide +kernel
theorem idle5 : ∀ t : Fin cfg0.N, t.val ≠ 7 → cfg0.idle 5 (grid0.coords t) = true := by decide +kernel
theorem live5 : ∀ t : Fin cfg0.N, t.val = 7 → cfg0.idle 5 (grid0.coords t) = false := by decide +kernel
theorem idle6 : ∀ t : Fin cfg0.N, t.val ≠ 0 → cfg0.idle 6 (grid0.coords t) = true := by decide +kernel
theorem live6 : ∀ t : Fin cfg0.N, t.val = 0 → cfg0.idle 6 (grid0.coords t) = false := by decide +kernel
theorem keep5 : ∀ t : Fin cfg0.N, t.val ≠ 7 → (cfg0.win 5).flush t = false := by decide +kernel
theorem keep6 : ∀ t : Fin cfg0.N, t.val ≠ 7 → (cfg0.win 6).flush t = false := by decide +kernel
theorem flush6 : ∀ t : Fin cfg0.N, t.val = 7 → (cfg0.win 6).flush t = true := by decide +kernel
theorem fetch6 : ∀ t : Fin cfg0.N, (cfg0.win 6).fetch t = false := by decide +kernel

/-- Point `r` of the first pass, and of the second. -/
def pt (r : Fin 4) : Fin cfg0.N := ⟨r.val, lt_of_lt_of_eq (by omega) (show 8 = cfg0.N from N_0.symm)⟩
def qt (r : Fin 4) : Fin cfg0.N := ⟨r.val + 4, lt_of_lt_of_eq (by omega) (show 8 = cfg0.N from N_0.symm)⟩

variable (m : (ℓ : Loc nD τ sig) → Buf (Elt F) ℓ) (ρ : Dev nD → PrngReg)

/-! ### What the tables hold in the end -/

/-- The distances of the test row to a block, the block's nearest row, and its least distance. -/
def dist (c : Dev nD) (r : Fin 4) : Vec F S1x16384 .f32 := k0_pay8 (iblk m c 4 (pt r)) (k0_pay2 (iblk m c 4 (pt r))) (iblk m c 3 (pt r))
def cand (c : Dev nD) (r : Fin 4) : Vec F S1x64 .f32 :=
  k0_pay12 (VecWindow.window (s := S16384x64) (iblk m c 4 (pt r)) (k0_off3 (lane (iblk m c 4 (pt r)) (iblk m c 3 (pt r)))) S1x64.size (off3_in _))
def low (c : Dev nD) (r : Fin 4) : Vec F S1x1 .f32 := k0_pay11 (iblk m c 4 (pt r)) (k0_pay2 (iblk m c 4 (pt r))) (iblk m c 3 (pt r))

/-- The library row nearest the test row. -/
def nearest (c : Dev nD) : Vec F S1x64 .f32 := star (rows (k := 64) (cand m c)) (rows (k := 1) (low m c))

/-- Its distances to a block. -/
def dist2 (c : Dev nD) (r : Fin 4) : Vec F S1x16384 .f32 := k0_pay5 (iblk m c 4 (qt r)) (nearest m c)

/-- The two results. -/
def result (c : Dev nD) : Vec F S1x1 .f32 := score (iblk m c 2 t0_7) (rows (k := 16384) (dist2 m c)) (rows (k := 16384) (dist m c))
def map (c : Dev nD) : Vec F S224x224 .f32 := k0_pay1 (iblk m c 0 t0_0) (iblk m c 1 t0_0)

/-- The scratch tables before point `n`. -/
structure Inv (c : Dev nD) (n : ℕ) (d8 d9 : Vec F S4x16384 .f32) (d10 : Vec F S4x64 .f32) (d11 : Vec F S4x1 .f32) (d12 : Vec F S1x64 .f32) : Prop where
  u8 : Upto (k := 16384) (n - 4) (rows (dist2 m c)) d8
  u9 : Upto (k := 16384) n (rows (dist m c)) d9
  u10 : Upto (k := 64) n (rows (cand m c)) d10
  u11 : Upto (k := 1) n (rows (low m c)) d11
  u12 : 4 ≤ n → d12 = nearest m c

/-- The invariant before point `n`. -/
def Phi (c : Dev nD) (n : ℕ) : sProp 𝕄 :=
  iprop((∃ d8 d9 d10 d11 d12, ⌜Inv m c n d8 d9 d10 d11 d12⌝
      ∗ owns (c : Thread nD τ) (Memref.whole cc0_scratch0) fullShare d8
      ∗ owns (c : Thread nD τ) (Memref.whole cc0_scratch1) fullShare d9
      ∗ owns (c : Thread nD τ) (Memref.whole cc0_scratch2) fullShare d10
      ∗ owns (c : Thread nD τ) (Memref.whole cc0_scratch3) fullShare d11
      ∗ owns (c : Thread nD τ) (Memref.whole cc0_scratch4) fullShare d12)
    ∗ (∃ r, prngReg c r))

/-! ### The pipeline's proof data -/

/-- The arrays as the region finds them; after the body each input's buffer at its block, the results' at the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result m c
    | ⟨6, _⟩ => map m c
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = result m c := by dsimp only [dats]
theorem after_6 (c : Dev nD) (t : Fin cfg0.N) : (dats m 0 c).after 6 t = map m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first point the map's buffer holds the map, which no later point changes. -/
theorem before_6 (c : Dev nD) (n : ℕ) (hn : n + 1 < cfg0.N) (d) : (dats m 0 c).before 6 ⟨n + 1, hn⟩ d = map m c := by
  induction n with
  | zero =>
    rw [Dat.before_of_pos _ _ _ (by simp) (fetch6 _), keep6 _ (by simp), if_neg (by simp)]
    unfold Dat.left
    rw [live6 _ (by simp)]
    exact after_6 m c _
  | succ n ih =>
    have h8 : n + 1 + 1 < 8 := lt_of_lt_of_eq hn (show cfg0.N = 8 from N_0)
    rw [Dat.before_of_pos _ _ _ (by simp) (fetch6 _), keep6 _ (by simp; omega), if_neg (by simp)]
    unfold Dat.left
    rw [idle6 _ (by simp)]
    exact ih (by omega)

theorem before_6' (c : Dev nD) (t : Fin cfg0.N) (ht : t.val ≠ 0) (d) : (dats m 0 c).before 6 t d = map m c := by
  obtain ⟨n, hn⟩ := t
  cases n with
  | zero => exact absurd rfl ht
  | succ n => exact before_6 m c n hn d

/-! ### The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) (ht : t.val = 7) : (dats m 0 c).leavesExact 5 t = owns (c : Thread nD τ) (st0_5 t) fullShare (result m c) := by
  unfold Dat.leavesExact; rw [live5 t ht, after_5]
theorem leaves_6 (c : Dev nD) (t : Fin cfg0.N) (ht : t.val = 0) : (dats m 0 c).leavesExact 6 t = owns (c : Thread nD τ) (st0_6 t) fullShare (map m c) := by
  unfold Dat.leavesExact; rw [live6 t ht, after_6]
theorem leaves_6' (c : Dev nD) (t : Fin cfg0.N) (ht : t.val = 7) : (dats m 0 c).leavesExact 6 t = owns (c : Thread nD τ) (st0_6 t) fullShare (map m c) := by
  unfold Dat.leavesExact; rw [idle6 t (by omega), flush6 t ht, after_6]

set_option maxHeartbeats 1600000 in
/-- The first point. -/
theorem soundA (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [Dat.leavesExact_idle (dats m 0 c) 5 t (idle5 t (by omega)) (keep5 t (by omega)), leaves_6 m c t ht]
  unfold Phi
  iintro ⟨⟨⟨%d8, %d9, %d10, %d11, %d12, %hi, S8, S9, S10, S11, S12⟩, Hg⟩, Ho, ⟨%e0, H1⟩, ⟨%e1, H2⟩, ⟨%e2, H3⟩, ⟨%e3, H4⟩, ⟨%e4, H5⟩, ⟨%e5, H6⟩, ⟨%e6, H7⟩⟩
  iapply (runA c (grid0.coords t) _ _ _ _ _ _ _ _ _ _ _ _ _ _ _ _ _ _ _ _ _ _ _ _ ((c1_iff t).mpr (by omega)) ((c2_iff t).mpr (by omega)) (fun h => by have := (c3_iff t).mp h; omega) (fun h => by have := (c4_iff t).mp h; omega))
  isplitl [H1]; · iexact H1
  isplitl [H2]; · iexact H2
  isplitl [H4]; · iexact H4
  isplitl [H5]; · iexact H5
  isplitl [H7]; · iexact H7
  isplitl [S9]; · iexact S9
  isplitl [S10]; · iexact S10
  isplitl [S11]; · iexact S11
  iintro ⟨H1, H2, H4, H5, H7, S9, S10, S11⟩
  isplitl [S8 S9 S10 S11 S12 Hg]
  · isplitr [Hg]
    swap; · iexact Hg
    iexists d8, (put9 (grid0.coords t) (iblk m c 4 t) (iblk m c 3 t) d9), (put10 (grid0.coords t) (iblk m c 4 t) (iblk m c 3 t) d10), (put11 (grid0.coords t) (iblk m c 4 t) (iblk m c 3 t) d11), d12
    isplitr
    · ipureintro
      exact { u8 := upto_zero (by omega), u12 := fun _ => by omega,
               u9 := upto_put (k := 16384) (by omega) hi.u9 (off1_eq t) _ rfl,
               u10 := upto_put (k := 64) (by omega) hi.u10 (off4_eq t) _ rfl,
               u11 := upto_put (k := 1) (by omega) hi.u11 (off2_eq t) _ rfl }
    isplitl [S8]; · iexact S8
    isplitl [S9]; · iexact S9
    isplitl [S10]; · iexact S10
    isplitl [S11]; · iexact S11
    iexact S12
  isplitl [Ho]; · iexact Ho
  isplitl [H1]; · iexact H1
  isplitl [H2]; · iexact H2
  isplitl [H3]; · iexact H3
  isplitl [H4]; · iexact H4
  isplitl [H5]; · iexact H5
  isplitl [H6]; · iexists _; iexact H6
  rw [show map m c = k0_pay1 (iblk m c 0 t) (iblk m c 1 t) from by unfold map; rw [show t0_0 = t from Fin.ext ht.symm]]
  iexact H7

set_option maxHeartbeats 1600000 in
/-- A later point of the first pass. -/
theorem soundB (c : Dev nD) (t : Fin cfg0.N) (h1 : t.val ≠ 0) (h2 : t.val < 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [Dat.leavesExact_idle (dats m 0 c) 5 t (idle5 t (by omega)) (keep5 t (by omega)), Dat.leavesExact_idle (dats m 0 c) 6 t (idle6 t (by omega)) (keep6 t (by omega))]
  unfold Phi
  iintro ⟨⟨⟨%d8, %d9, %d10, %d11, %d12, %hi, S8, S9, S10, S11, S12⟩, Hg⟩, Ho, ⟨%e0, H1⟩, ⟨%e1, H2⟩, ⟨%e2, H3⟩, ⟨%e3, H4⟩, ⟨%e4, H5⟩, ⟨%e5, H6⟩, ⟨%e6, H7⟩⟩
  iapply (runB c (grid0.coords t) _ _ _ _ _ _ _ _ _ _ _ _ _ _ _ _ _ _ _ _ _ _ _ _ (fun h => by have := (c1_iff t).mp h; omega) ((c2_iff t).mpr (by omega)) (fun h => by have := (c3_iff t).mp h; omega) (fun h => by have := (c4_iff t).mp h; omega))
  isplitl [H4]; · iexact H4
  isplitl [H5]; · iexact H5
  isplitl [S9]; · iexact S9
  isplitl [S10]; · iexact S10
  isplitl [S11]; · iexact S11
  iintro ⟨H4, H5, S9, S10, S11⟩
  isplitl [S8 S9 S10 S11 S12 Hg]
  · isplitr [Hg]
    swap; · iexact Hg
    iexists d8, (put9 (grid0.coords t) (iblk m c 4 t) (iblk m c 3 t) d9), (put10 (grid0.coords t) (iblk m c 4 t) (iblk m c 3 t) d10), (put11 (grid0.coords t) (iblk m c 4 t) (iblk m c 3 t) d11), d12
    isplitr
    · ipureintro
      exact { u8 := upto_zero (by omega), u12 := fun _ => by omega,
               u9 := upto_put (k := 16384) (by omega) hi.u9 (off1_eq t) _ rfl,
               u10 := upto_put (k := 64) (by omega) hi.u10 (off4_eq t) _ rfl,
               u11 := upto_put (k := 1) (by omega) hi.u11 (off2_eq t) _ rfl }
    isplitl [S8]; · iexact S8
    isplitl [S9]; · iexact S9
    isplitl [S10]; · iexact S10
    isplitl [S11]; · iexact S11
    iexact S12
  isplitl [Ho]; · iexact Ho
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The last point of the first pass. -/
theorem soundC (c : Dev nD) (t : Fin cfg0.N) (ht : t.val = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [Dat.leavesExact_idle (dats m 0 c) 5 t (idle5 t (by omega)) (keep5 t (by omega)), Dat.leavesExact_idle (dats m 0 c) 6 t (idle6 t (by omega)) (keep6 t (by omega))]
  unfold Phi
  iintro ⟨⟨⟨%d8, %d9, %d10, %d11, %d12, %hi, S8, S9, S10, S11, S12⟩, Hg⟩, Ho, ⟨%e0, H1⟩, ⟨%e1, H2⟩, ⟨%e2, H3⟩, ⟨%e3, H4⟩, ⟨%e4, H5⟩, ⟨%e5, H6⟩, ⟨%e6, H7⟩⟩
  iapply (runC c (grid0.coords t) _ _ _ _ _ _ _ _ _ _ _ _ _ _ _ _ _ _ _ _ _ _ _ _ (fun h => by have := (c1_iff t).mp h; omega) ((c2_iff t).mpr (by omega)) ((c3_iff t).mpr (by omega)) (fun h => by have := (c4_iff t).mp h; omega))
  isplitl [H4]; · iexact H4
  isplitl [H5]; · iexact H5
  isplitl [S9]; · iexact S9
  isplitl [S10]; · iexact S10
  isplitl [S11]; · iexact S11
  isplitl [S12]; · iexact S12
  iintro ⟨H4, H5, S9, S10, S11, S12⟩
  isplitl [S8 S9 S10 S11 S12 Hg]
  · isplitr [Hg]
    swap; · iexact Hg
    iexists d8, (put9 (grid0.coords t) (iblk m c 4 t) (iblk m c 3 t) d9), (put10 (grid0.coords t) (iblk m c 4 t) (iblk m c 3 t) d10), (put11 (grid0.coords t) (iblk m c 4 t) (iblk m c 3 t) d11), (star (put10 (grid0.coords t) (iblk m c 4 t) (iblk m c 3 t) d10) (put11 (grid0.coords t) (iblk m c 4 t) (iblk m c 3 t) d11))
    isplitr
    · ipureintro
      have v9 := upto_put (k := 16384) (by omega) hi.u9 (off1_eq t) _ rfl
      have v10 := upto_put (k := 64) (by omega) hi.u10 (off4_eq t) _ rfl
      have v11 := upto_put (k := 1) (by omega) hi.u11 (off2_eq t) _ rfl
      exact { u8 := upto_zero (by omega), u9 := v9, u10 := v10, u11 := v11,
               u12 := fun _ => congrArg₂ star (v10.all (by omega)) (v11.all (by omega)) }
    isplitl [S8]; · iexact S8
    isplitl [S9]; · iexact S9
    isplitl [S10]; · iexact S10
    isplitl [S11]; · iexact S11
    iexact S12
  isplitl [Ho]; · iexact Ho
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- A point of the second pass. -/
theorem soundD (c : Dev nD) (t : Fin cfg0.N) (h1 : 4 ≤ t.val) (h2 : t.val < 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [Dat.leavesExact_idle (dats m 0 c) 5 t (idle5 t (by omega)) (keep5 t (by omega)), Dat.leavesExact_idle (dats m 0 c) 6 t (idle6 t (by omega)) (keep6 t (by omega))]
  unfold Phi
  iintro ⟨⟨⟨%d8, %d9, %d10, %d11, %d12, %hi, S8, S9, S10, S11, S12⟩, Hg⟩, Ho, ⟨%e0, H1⟩, ⟨%e1, H2⟩, ⟨%e2, H3⟩, ⟨%e3, H4⟩, ⟨%e4, H5⟩, ⟨%e5, H6⟩, ⟨%e6, H7⟩⟩
  iapply (runD c (grid0.coords t) _ _ _ _ _ _ _ _ _ _ _ _ _ _ _ _ _ _ _ _ _ _ _ _ (fun h => by have := (c1_iff t).mp h; omega) (fun h => by have := (c2_iff t).mp h; omega) ((c4_iff t).mpr (by omega)) (fun h => by have := (c5_iff t).mp h; omega))
  isplitl [H5]; · iexact H5
  isplitl [S8]; · iexact S8
  isplitl [S12]; · iexact S12
  have h8 : 4 ≤ t.val := by omega
  have v8 : Upto (k := 16384) (t.val - 4 + 1) (rows (dist2 m c)) (put8 (grid0.coords t) (iblk m c 4 t) d12 d8) :=
    upto_put (k := 16384) (by omega) hi.u8 (off6_eq t h8) _ (by
      rw [hi.u12 h8]
      exact congrArg (fun s => k0_pay5 (iblk m c 4 s) (nearest m c)) (Fin.ext (by show t.val = t.val - 4 + 4; omega)))
  iintro ⟨H5, S8, S12⟩
  isplitl [S8 S9 S10 S11 S12 Hg]
  · isplitr [Hg]
    swap; · iexact Hg
    iexists (put8 (grid0.coords t) (iblk m c 4 t) d12 d8), d9, d10, d11, d12
    isplitr
    · ipureintro
      exact { u9 := hi.u9.more h8, u10 := hi.u10.more h8, u11 := hi.u11.more h8, u12 := fun _ => hi.u12 h8,
               u8 := by rw [show t.val + 1 - 4 = t.val - 4 + 1 by omega]; exact v8 }
    isplitl [S8]; · iexact S8
    isplitl [S9]; · iexact S9
    isplitl [S10]; · iexact S10
    isplitl [S11]; · iexact S11
    iexact S12
  isplitl [Ho]; · iexact Ho
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 1600000 in
/-- The last point. -/
theorem soundE (c : Dev nD) (t : Fin cfg0.N) (ht : t.val = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leaves_5 m c t ht, leaves_6' m c t ht]
  unfold Phi
  iintro ⟨⟨⟨%d8, %d9, %d10, %d11, %d12, %hi, S8, S9, S10, S11, S12⟩, Hg⟩, Ho, ⟨%e0, H1⟩, ⟨%e1, H2⟩, ⟨%e2, H3⟩, ⟨%e3, H4⟩, ⟨%e4, H5⟩, ⟨%e5, H6⟩, ⟨%e6, H7⟩⟩
  iapply (runE c (grid0.coords t) _ _ _ _ _ _ _ _ _ _ _ _ _ _ _ _ _ _ _ _ _ _ _ _ (fun h => by have := (c1_iff t).mp h; omega) (fun h => by have := (c2_iff t).mp h; omega) ((c4_iff t).mpr (by omega)) ((c5_iff t).mpr (by omega)) (by rw [off6_eq t (by omega), ht]))
  isplitl [H3]; · iexact H3
  isplitl [H5]; · iexact H5
  isplitl [H6]; · iexact H6
  isplitl [S8]; · iexact S8
  isplitl [S9]; · iexact S9
  isplitl [S12]; · iexact S12
  have h8 : 4 ≤ t.val := by omega
  have v8 : Upto (k := 16384) (t.val - 4 + 1) (rows (dist2 m c)) (put8 (grid0.coords t) (iblk m c 4 t) d12 d8) :=
    upto_put (k := 16384) (by omega) hi.u8 (off6_eq t h8) _ (by
      rw [hi.u12 h8]
      exact congrArg (fun s => k0_pay5 (iblk m c 4 s) (nearest m c)) (Fin.ext (by show t.val = t.val - 4 + 4; omega)))
  iintro ⟨H3, H5, H6, S8, S9, S12⟩
  isplitl [S8 S9 S10 S11 S12 Hg]
  · isplitr [Hg]
    swap; · iexact Hg
    iexists (put8 (grid0.coords t) (iblk m c 4 t) d12 d8), d9, d10, d11, d12
    isplitr
    · ipureintro
      exact { u9 := hi.u9.more h8, u10 := hi.u10.more h8, u11 := hi.u11.more h8, u12 := fun _ => hi.u12 h8,
               u8 := by rw [show t.val + 1 - 4 = t.val - 4 + 1 by omega]; exact v8 }
    isplitl [S8]; · iexact S8
    isplitl [S9]; · iexact S9
    isplitl [S10]; · iexact S10
    isplitl [S11]; · iexact S11
    iexact S12
  isplitl [Ho]; · iexact Ho
  isplitl [H1]; · iexact H1
  isplitl [H2]; · iexact H2
  isplitl [H3]; · iexact H3
  isplitl [H4]; · iexact H4
  isplitl [H5]; · iexact H5
  isplitl [H6]
  · rw [show result m c = score (iblk m c 2 t) (put8 (grid0.coords t) (iblk m c 4 t) d12 d8) d9 from by
      unfold result; rw [← v8.all (by omega), ← hi.u9.all h8, show t0_7 = t from Fin.ext ht.symm]]
    iexact H6
  rw [before_6' m c t (by omega)]
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val = 0
  · exact soundA m c t h0
  by_cases h1 : t.val < 3
  · exact soundB m c t h0 h1
  by_cases h2 : t.val = 3
  · exact soundC m c t h2
  by_cases h3 : t.val < 7
  · exact soundD m c t (by omega) h3
  · exact soundE m c t (by omega)

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region, the scratch buffers spelt as the body has them. -/
theorem start_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]

theorem hin (c : Dev nD) : Pipeline.ΦA spec0 c ⊢ (dats m 0 c).Φ 0 := by
  rw [show (dats m 0 c).Φ 0 = Phi m c 0 from rfl, start_eq]
  unfold Phi
  iintro ⟨⟨⟨%d8, S8⟩, ⟨%d9, S9⟩, ⟨%d10, S10⟩, ⟨%d11, S11⟩, ⟨%d12, S12⟩⟩, Hg⟩
  isplitr [Hg]
  swap; · iexact Hg
  iexists d8, d9, d10, d11, d12
  isplitr
  · ipureintro
    exact { u8 := upto_zero rfl, u9 := upto_zero rfl, u10 := upto_zero rfl, u11 := upto_zero rfl, u12 := fun h => by omega }
  isplitl [S8]; · iexact S8
  isplitl [S9]; · iexact S9
  isplitl [S10]; · iexact S10
  isplitl [S11]; · iexact S11
  iexact S12

theorem hout (c : Dev nD) : (dats m 0 c).Φ (Fin.last cfg0.N) ⊢ Pipeline.ΦA spec0 c := by
  rw [show (dats m 0 c).Φ (Fin.last cfg0.N) = Phi m c (Fin.last cfg0.N).val from rfl, start_eq]
  unfold Phi
  iintro ⟨⟨%d8, %d9, %d10, %d11, %d12, %hi, S8, S9, S10, S11, S12⟩, Hg⟩
  isplitr [Hg]
  swap; · iexact Hg
  isplitl [S8]; · iexists _; iexact S8
  isplitl [S9]; · iexists _; iexact S9
  isplitl [S10]; · iexists _; iexact S10
  isplitl [S11]; · iexists _; iexact S11
  iexists _; iexact S12

/-! ### The launch -/

set_option backward.isDefEq.respectTransparency.types false in
/-- Every execution ends, with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the semaphore counters at zero. -/
theorem frame2 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Hand

end
-- ==== Proof.Second2.lean ====
/-
  The second kernel as compiled has the same text as the one whose frame Region proves for every reading of the floats:
  the two body tables are one function, and the frame is carried over at machine words.
-/
module

public import proofs.«01_k».proof.Proof.Region
public import proofs.«01_k».proof.Defs
public import proofs.«01_k».proof.Proof.Gen.Kernel2

@[expose] public section

noncomputable section

namespace Cert.Kernel2.Hand

open Idealize.ShloMosaic

/-- The two programs hand the same body to their one call. -/
theorem bodies_eq {F : FTy → Type} [FloatOps F] : (Cert.Kernel2.defs₀ (F := F)) = (Cert.Kernel2Ideal.defs₀ (F := F)) := by
  unfold Cert.Kernel2.defs₀ Cert.Kernel2Ideal.defs₀
  refine congrArg Defs.onTc (funext fun l => ?_)
  match l with
  | 0 => rfl

/-- So their tables of calls are one. -/
theorem defs_eq {F : FTy → Type} [FloatOps F] : (Cert.Kernel2.defs (F := F)) = (Cert.Kernel2Ideal.defs (F := F)) := by
  unfold Cert.Kernel2.defs Cert.Kernel2Ideal.defs
  rw [bodies_eq]
  rfl

/-- The compiled kernel ends with its five arguments as they were and its semaphores at zero. -/
theorem frame2 : Cert.quiescent_Kernel2 := by
  intro m ρ _
  have h := Cert.Kernel2Ideal.Hand.frame2 (F := Bits) m ρ
  rw [← defs_eq] at h
  exact h

end Cert.Kernel2.Hand

end
-- ==== Proof.Values2.lean ====
/-
  What the second kernel's printed pieces compute over the extended reals, entry by entry.
-/
module

public import proofs.«01_k».proof.Proof.Region
public import proofs.«01_k».proof.Proof.Model
public import Idealize.ShloMosaic.Lib.Pipeline.ValueKit

@[expose] public section

set_option maxRecDepth 16384

noncomputable section

namespace Cert.Kernel2Ideal.Hand

open Idealize.ShloMosaic Cert.Kernel2Ideal Cert.Kernel2Ideal.Gen Cert.Hand

/-- The row of the whole library that row `j` of block `t` is. -/
def libRow (t : Fin 4) (j : Fin 16384) : Fin 65536 := ⟨16384 * t.val + j.val, by omega⟩

/-- The squared lengths of a block's rows. -/
theorem pay2_at (b : Vec Ideal S16384x64 .f32) (j : Fin 16384) :
    k0_pay2 (F := Ideal) b (ix2 0 j) = ∑ k : Fin 64, Ideal.ofBits .f32 1065353216#32 * (b (ix2 j k) * b (ix2 j k)) := by
  pointwise [k0_pay2]

/-- The clipped expanded square of one row and a block's rows. -/
theorem pay7_at (b : Vec Ideal S16384x64 .f32) (s : FVec Ideal S1x16384 .f32) (a : Vec Ideal S1x64 .f32) (j : Fin 16384) :
    k0_pay7 (F := Ideal) b s a (ix2 0 j) = max ((∑ k, a (ix2 0 k) * a (ix2 0 k)) + s (ix2 0 j)
      - Ideal.ofBits .f32 1073741824#32 * ∑ k : Fin 64, a (ix2 0 k) * b (ix2 j k)) 0 := by
  pointwise [k0_pay7]

theorem pay8_at (b : Vec Ideal S16384x64 .f32) (s : FVec Ideal S1x16384 .f32) (a : Vec Ideal S1x64 .f32) (j : Fin 16384) :
    k0_pay8 (F := Ideal) b s a (ix2 0 j) = k0_pay7 (F := Ideal) b s a (ix2 0 j) := by
  pointwise [k0_pay8]

theorem pay5_at (b : Vec Ideal S16384x64 .f32) (a : Vec Ideal S1x64 .f32) (j : Fin 16384) :
    k0_pay5 (F := Ideal) b a (ix2 0 j) = max ((∑ k, a (ix2 0 k) * a (ix2 0 k)) + k0_pay2 (F := Ideal) b (ix2 0 j)
      - Ideal.ofBits .f32 1073741824#32 * ∑ k : Fin 64, a (ix2 0 k) * b (ix2 j k)) 0 := by
  pointwise [k0_pay5]

theorem pay9_at (b : Vec Ideal S16384x64 .f32) (s : FVec Ideal S1x16384 .f32) (a : Vec Ideal S1x64 .f32) :
    k0_pay9 (F := Ideal) b s a = Finset.univ.fold min (Ideal.ofBits .f32 2139095040#32)
      (fun x : Fin 1 × Fin 16384 => k0_pay7 (F := Ideal) b s a (ix2 0 x.2)) := by
  pointwise [k0_pay9]

theorem pay11_at (b : Vec Ideal S16384x64 .f32) (s : FVec Ideal S1x16384 .f32) (a : Vec Ideal S1x64 .f32) :
    k0_pay11 (F := Ideal) b s a (ix2 0 0) = k0_pay9 (F := Ideal) b s a := by
  pointwise [k0_pay11]

theorem lane_at (b : Vec Ideal S16384x64 .f32) (a : Vec Ideal S1x64 .f32) :
    lane (F := Ideal) b a = Finset.univ.fold IntOp.minsi 2147483647#32 (fun x : Fin 1 × Fin 16384 =>
      if k0_pay7 (F := Ideal) b (k0_pay2 b) a (ix2 0 x.2) = k0_pay9 (F := Ideal) b (k0_pay2 b) a then BitVec.ofNat 32 x.2.val
        else BitVec.ofNat 32 16384) := by
  unfold lane
  pointwise [k0_pay10]

theorem pick_at (d : Vec Ideal S4x1 .f32) :
    pick (F := Ideal) d = Finset.univ.fold IntOp.minsi 2147483647#32 (fun x : Fin 4 × Fin 1 =>
      if d (ix2 x.1 0) = Finset.univ.fold min (Ideal.ofBits .f32 2139095040#32) (fun x : Fin 4 × Fin 1 => d (ix2 x.1 0)) then BitVec.ofNat 32 x.1.val
        else BitVec.ofNat 32 4) := by
  unfold pick
  pointwise [k0_pay3]

theorem pay4_at (d : Vec Ideal S1x64 .f32) (k : Fin 64) : k0_pay4 (F := Ideal) d (ix2 0 k) = d (ix2 0 k) := by
  pointwise [k0_pay4]
theorem pay12_at (d : Vec Ideal S1x64 .f32) (k : Fin 64) : k0_pay12 (F := Ideal) d (ix2 0 k) = d (ix2 0 k) := by
  pointwise [k0_pay12]
theorem pay13_at (t : Fin 4) (j : Fin 16384) : k0_pay13 (ix2 t j) = BitVec.ofNat 32 (libRow t j).val := by
  have e : k0_pay13 (ix2 t j) = IntOp.addi (IntOp.muli (BitVec.ofNat 32 t.val) 16384#32) (BitVec.ofNat 32 j.val) := by
    pointwise [k0_pay13]
  rw [e]
  show BitVec.ofNat 32 t.val * BitVec.ofNat 32 16384 + BitVec.ofNat 32 j.val = _
  rw [← BitVec.ofNat_mul, ← BitVec.ofNat_add]
  congr 1
  unfold libRow
  dsimp only
  omega
theorem pay1_at (x : Vec Ideal S56x56 .f32) (a : Vec Ideal S224x56 .f32) (i j : Fin 224) :
    k0_pay1 (F := Ideal) x a (ix2 i j) = ∑ l : Fin 56, (∑ k : Fin 56, a (ix2 i k) * Ideal.sqrt (x (ix2 k l))) * a (ix2 j l) := by
  pointwise [k0_pay1]

end Cert.Kernel2Ideal.Hand

end
-- ==== Proof.Model2.lean ====
/-
  The order in which the second kernel and its reference visit the library rows: by a real value, and by the row's number
  where values agree; and the score that both compute from two distances.
-/
module

public import proofs.«01_k».proof.Proof.Model

@[expose] public section

noncomputable section

namespace Cert.Hand

open Idealize.ShloMosaic

/-! ### The next place in the order -/

section
variable {ι : Type} {num : ι → ℕ} {e : ι → ℝ} {S : ι → Prop} {k : ι}

/-- `k` comes first of the places outside `S`: its value is the least there, and its number the least among equal values. -/
def Next (num : ι → ℕ) (e : ι → ℝ) (S : ι → Prop) (k : ι) : Prop :=
  ¬S k ∧ ∀ j, ¬S j → e k < e j ∨ (e k = e j ∧ num k ≤ num j)

theorem exists_next [Fintype ι] (num : ι → ℕ) (e : ι → ℝ) (h : ∃ k, ¬S k) : ∃ k, Next num e S k := by
  classical
  obtain ⟨k, hk, hm⟩ := Finset.exists_min_image (Finset.univ.filter fun k => ¬S k) (fun j => toLex (e j, num j))
    (h.elim fun k hk => ⟨k, by simpa using hk⟩)
  refine ⟨k, by simpa using hk, fun j hj => ?_⟩
  have := hm j (by simpa using hj)
  rwa [Prod.Lex.toLex_le_toLex] at this

theorem Next.le (h : Next num e S k) {j : ι} (hj : ¬S j) : e k ≤ e j :=
  (h.2 j hj).elim le_of_lt fun h => h.1.le

/-- The least value outside `S`, where `S` is set to plus infinity. -/
theorem Next.fold [Fintype ι] [DecidablePred S] (h : Next num e S k) :
    Finset.univ.fold min (⊤ : EReal) (fun j => if S j then ⊤ else (e j : EReal)) = (e k : EReal) := by
  refine eq_of_forall_le_iff fun x => ?_
  rw [Finset.le_fold_min]
  constructor
  · intro hx
    have := hx.2 k (Finset.mem_univ k)
    rwa [if_neg h.1] at this
  · intro hx
    refine ⟨le_top, fun j _ => ?_⟩
    by_cases hj : S j
    · rw [if_pos hj]; exact le_top
    · rw [if_neg hj]; exact hx.trans (EReal.coe_le_coe_iff.2 (h.le hj))

/-- `k` is the first place where it stands. -/
theorem Next.first [DecidablePred S] (h : Next num e S k) :
    IsFirst num (fun j => (if S j then ⊤ else (e j : EReal)) = (e k : EReal)) k := by
  refine ⟨if_neg h.1, fun j hj => ?_⟩
  change (if S j then ⊤ else (e j : EReal)) = (e k : EReal) at hj
  by_cases hS : S j
  · rw [if_pos hS] at hj
    exact absurd hj.symm (EReal.coe_ne_top _)
  · rw [if_neg hS, EReal.coe_eq_coe_iff] at hj
    exact (h.2 j hS).elim (fun hlt => absurd hj hlt.ne') fun h => h.2

/-- With nothing left out: the least value, and the first place where it stands. -/
theorem Next.fold_all [Fintype ι] (h : Next num e (fun _ => False) k) :
    Finset.univ.fold min (⊤ : EReal) (fun j => (e j : EReal)) = (e k : EReal) := by
  have := h.fold
  simpa only [if_false] using this

theorem Next.first_all (h : Next num e (fun _ => False) k) : IsFirst num (fun j => (e j : EReal) = (e k : EReal)) k := by
  have := h.first
  simpa only [if_false] using this
end

/-- The first three places of the order, among the library rows. -/
structure Three (e : Fin 65536 → ℝ) (q0 q1 q2 : Fin 65536) : Prop where
  h0 : Next (fun J : Fin 65536 => J.val) e (fun _ => False) q0
  h1 : Next (fun J : Fin 65536 => J.val) e (fun J => J = q0) q1
  h2 : Next (fun J : Fin 65536 => J.val) e (fun J => J = q0 ∨ J = q1) q2

theorem exists_three (e : Fin 65536 → ℝ) : ∃ q0 q1 q2, Three e q0 q1 q2 := by
  obtain ⟨q0, h0⟩ := exists_next (S := fun _ : Fin 65536 => False) (fun J => J.val) e ⟨0, id⟩
  have two : ∀ a b : Fin 65536, ∃ k : Fin 65536, ¬(k = a ∨ k = b) := fun a b => by
    by_contra hc
    have hc' : ∀ k : Fin 65536, k = a ∨ k = b := fun k => by by_contra hk; exact hc ⟨k, hk⟩
    have c0 := hc' 0
    have c1 := hc' 1
    have c2 := hc' 2
    simp only [Fin.ext_iff, Fin.val_zero, Fin.val_one, Fin.val_two] at c0 c1 c2
    omega
  obtain ⟨q1, h1⟩ := exists_next (S := fun J : Fin 65536 => J = q0) (fun J => J.val) e
    ((two q0 q0).elim fun k hk => ⟨k, fun h => hk (Or.inl h)⟩)
  obtain ⟨q2, h2⟩ := exists_next (S := fun J : Fin 65536 => J = q0 ∨ J = q1) (fun J => J.val) e (two q0 q1)
  exact ⟨q0, q1, q2, h0, h1, h2⟩

/-! ### The score -/

theorem c_one : Ideal.ofBits FTy.f32 1065353216#32 = 1 := by
  simp [Ideal.ofBits, Ideal.ieee, -EReal.coe_mul, -EReal.coe_neg]
  norm_num
theorem c_sixtyfour : Ideal.ofBits FTy.f32 1115684864#32 = ((64 : ℝ) : EReal) := by
  simp [Ideal.ofBits, Ideal.ieee, -EReal.coe_mul, -EReal.coe_neg]; norm_num

/-- The root of a real value that is not negative. -/
theorem sqrt_coe {r : ℝ} (h : 0 ≤ r) : Ideal.sqrt (r : EReal) = ((Real.sqrt r : ℝ) : EReal) := by
  show (if r < 0 then ⊥ else ((Real.sqrt r : ℝ) : EReal)) = _
  exact if_neg (not_lt.2 h)

/-- The root of the number of columns. -/
def eight : EReal := Ideal.sqrt (Ideal.ofBits FTy.f32 1115684864#32)

theorem eight_ne : eight ≠ 0 := by
  unfold eight
  rw [c_sixtyfour, sqrt_coe (by norm_num)]
  have h : Real.sqrt 64 ≠ 0 := by positivity
  exact_mod_cast h

/-- To divide by it is to multiply by its inverse. -/
theorem mul_inv_eight (x : EReal) : x * Ideal.div 1 eight = Ideal.div x eight := by
  unfold Ideal.div
  rw [if_neg eight_ne, if_neg eight_ne, one_mul]

/-- The score from the squared distance found by the first kernel and the two distances to the neighbours. -/
def weigh (q x y : EReal) : EReal :=
  (1 - Ideal.div (Ideal.exp (Ideal.div (Ideal.sqrt q) eight)) (Ideal.exp (Ideal.div x eight) + Ideal.exp (Ideal.div y eight))) * Ideal.sqrt q

end Cert.Hand

end
-- ==== Proof.Rounds2.lean ====
/-
  The second kernel's last three rounds: each finds the first least entry of the table of distances and sets it to plus infinity,
  and the score is built from the second table's entries at the second and third places found.
-/
module

public import proofs.«01_k».proof.Proof.Values2
public import proofs.«01_k».proof.Proof.Model2

@[expose] public section

set_option maxRecDepth 16384

noncomputable section

namespace Cert.Kernel2Ideal.Hand

open Idealize.ShloMosaic Cert.Kernel2Ideal Cert.Kernel2Ideal.Gen Cert.Hand

section
variable {F : FTy → Type} [FloatOps F]

/-- The printed minimum of a table. -/
def minOf (d : FVec F S4x16384 .f32) : F .f32 :=
  extractAt ![0, 0, 0] (shapeCast S1x1x1 (multiReduction .minimumf [1, 2] S1 (shapeCast S1x4x16384 d shapeCasts_S4x16384_S1x4x16384)
    0x7F800000#32 reduces_S1x4x16384_S1 (.inl rfl) rfl) shapeCasts_S1_S1x1x1) inpos_S1x1x1_p0_0_0

/-- The printed search for the first place of a table where a value stands. -/
def firstOf (d : FVec F S4x16384 .f32) (x : F .f32) : BitVec 32 :=
  extractAt ![0, 0, 0] (shapeCast S1x1x1 (multiReductionI .minsi [1, 2] S1 (shapeCast S1x4x16384
    (select (cmpf .oeq d (broadcast S4x16384 x)) k0_pay13 (broadcast S4x16384 65536#32)) shapeCasts_S4x16384_S1x4x16384)
    2147483647#32 reduces_S1x4x16384_S1 rfl) shapeCasts_S1_S1x1x1) inpos_S1x1x1_p0_0_0

/-- The printed sum that keeps the entry of a table at one place. -/
def entryOf (e : FVec F S4x16384 .f32) (w : BitVec 32) : F .f32 :=
  extractAt ![0, 0, 0] (shapeCast S1x1x1 (multiReduction .add [1, 2] S1 (shapeCast S1x4x16384
    (select (cmpi .eq k0_pay13 (broadcast S4x16384 w)) e (broadcast S4x16384 (Scalar.ofBits .f32 0x00000000#32))) shapeCasts_S4x16384_S1x4x16384)
    0x00000000#32 reduces_S1x4x16384_S1 (.inl rfl) rfl) shapeCasts_S1_S1x1x1) inpos_S1x1x1_p0_0_0

/-- The table with the place of a word set to plus infinity. -/
def without (d : FVec F S4x16384 .f32) (w : BitVec 32) : FVec F S4x16384 .f32 :=
  select (cmpi .eq k0_pay13 (broadcast S4x16384 w)) (broadcast S4x16384 (Scalar.ofBits .f32 0x7F800000#32)) d

/-- One round of the search: the word of the first least entry, and the table without it. -/
def least1 (d : FVec F S4x16384 .f32) : BitVec 32 := firstOf d (minOf d)
def drop1 (d : FVec F S4x16384 .f32) : FVec F S4x16384 .f32 := without d (least1 d)

theorem pay14_eq (d : FVec F S4x16384 .f32) : k0_pay14 d = drop1 d := rfl
theorem pay15_eq (d e : FVec F S4x16384 .f32) : k0_pay15 d e = entryOf e (least1 (drop1 d)) := rfl
theorem pay16_eq (d : FVec F S4x16384 .f32) : k0_pay16 d = cmpi .eq k0_pay13 (broadcast S4x16384 (least1 (drop1 d))) := rfl

/-- The printed end of the score, from the two distances kept. -/
def close (x y : F .f32) (q : Vec F S1x1 .f32) : FVec F S1x1 .f32 :=
  have s := sqrt q
  have i := Scalar.divf (Scalar.ofBits .f32 0x3F800000#32) (Scalar.sqrt (Scalar.ofBits .f32 0x42800000#32))
  mulf (subf (broadcast S1x1 (Scalar.ofBits .f32 0x3F800000#32)) (divf (exp (mulf s (broadcast S1x1 i)))
    (broadcast S1x1 (Scalar.addf (Scalar.exp (Scalar.mulf (Scalar.sqrt x) i)) (Scalar.exp (Scalar.mulf (Scalar.sqrt y) i)))))) s

theorem score_eq (q : Vec F S1x1 .f32) (d e : FVec F S4x16384 .f32) :
    score q d e = close (entryOf e (least1 (drop1 d))) (entryOf e (least1 (drop1 (drop1 d)))) q := rfl
end

theorem minOf_at (d : FVec Ideal S4x16384 .f32) :
    minOf d = Finset.univ.fold min (Ideal.ofBits .f32 2139095040#32) (fun x : Fin 4 × Fin 16384 => d (ix2 x.1 x.2)) := by
  unfold minOf
  pointwise

theorem firstOf_at (d : FVec Ideal S4x16384 .f32) (v : EReal) :
    firstOf d v = Finset.univ.fold IntOp.minsi 2147483647#32 (fun x : Fin 4 × Fin 16384 =>
      if d (ix2 x.1 x.2) = v then k0_pay13 (ix2 x.1 x.2) else 65536#32) := by
  unfold firstOf
  pointwise

theorem entryOf_at (e : FVec Ideal S4x16384 .f32) (w : BitVec 32) :
    entryOf e w = ∑ t : Fin 4, ∑ j : Fin 16384, Scalar.select (IntOp.cmpi .eq (k0_pay13 (ix2 t j)) w) (e (ix2 t j)) (0 : EReal) := by
  unfold entryOf
  pointwise

theorem without_at (d : FVec Ideal S4x16384 .f32) (w : BitVec 32) (t : Fin 4) (j : Fin 16384) :
    without d w (ix2 t j) = Scalar.select (IntOp.cmpi .eq (k0_pay13 (ix2 t j)) w) (Ideal.ofBits .f32 2139095040#32) (d (ix2 t j)) := by
  unfold without
  pointwise

/-- The end of the score, in one formula. -/
theorem close_at (x y : EReal) (q : Vec Ideal S1x1 .f32) :
    close (F := Ideal) x y q (ix2 0 0) = weigh (q (ix2 0 0)) (Ideal.sqrt x) (Ideal.sqrt y) := by
  have e : close (F := Ideal) x y q (ix2 0 0)
      = (Ideal.ofBits .f32 1065353216#32
          - Ideal.div (Ideal.exp (Ideal.sqrt (q (ix2 0 0)) * Ideal.div (Ideal.ofBits .f32 1065353216#32) eight))
            (Ideal.exp (Ideal.sqrt x * Ideal.div (Ideal.ofBits .f32 1065353216#32) eight)
              + Ideal.exp (Ideal.sqrt y * Ideal.div (Ideal.ofBits .f32 1065353216#32) eight)))
        * Ideal.sqrt (q (ix2 0 0)) := by
    unfold close eight
    pointwise
    rw [← c_one]
    rfl
  rw [e, c_one]
  simp only [mul_inv_eight]
  rfl

/-- A choice by whether two words are equal. -/
theorem select_eq {α : Type} (a w : BitVec 32) (x y : α) : Scalar.select (IntOp.cmpi .eq a w) x y = if a = w then x else y := by
  by_cases h : a = w
  · subst h
    simp [Scalar.select, IntOp.cmpi]
  · have h' : (a == w) = false := by simpa using h
    simp [Scalar.select, IntOp.cmpi, h, h']

/-- The words of two library rows are equal only if the rows are. -/
theorem word_iff (J K : Fin 65536) : BitVec.ofNat 32 J.val = BitVec.ofNat 32 K.val ↔ J = K := by
  constructor
  · intro h
    have h' := congrArg BitVec.toNat h
    simp only [BitVec.toNat_ofNat] at h'
    have := J.isLt
    have := K.isLt
    exact Fin.ext (by omega)
  · rintro rfl
    rfl

/-- Every library row is in one of the four blocks. -/
theorem exists_libRow (J : Fin 65536) : ∃ t j, libRow t j = J :=
  ⟨⟨J.val / 16384, by have := J.isLt; omega⟩, ⟨J.val % 16384, by omega⟩, Fin.ext (by show 16384 * (J.val / 16384) + J.val % 16384 = J.val; omega)⟩

theorem libRow_inj {t t' : Fin 4} {j j' : Fin 16384} (h : libRow t j = libRow t' j') : t = t' ∧ j = j' := by
  have h' := congrArg Fin.val h
  simp only [libRow] at h'
  exact ⟨Fin.ext (by omega), Fin.ext (by omega)⟩

/-- The table `d` holds the values `e`, but plus infinity on `S`. -/
def Holds (d : FVec Ideal S4x16384 .f32) (e : Fin 65536 → ℝ) (S : Fin 65536 → Prop) [DecidablePred S] : Prop :=
  ∀ t j, d (ix2 t j) = if S (libRow t j) then (⊤ : EReal) else ((e (libRow t j) : ℝ) : EReal)

section
variable {d : FVec Ideal S4x16384 .f32} {e : Fin 65536 → ℝ} {S : Fin 65536 → Prop} [DecidablePred S] {k : Fin 65536}

/-- A round finds the next row in the order. -/
theorem least1_eq (hd : Holds d e S) (hk : Next (fun J : Fin 65536 => J.val) e S k) : least1 d = BitVec.ofNat 32 k.val := by
  obtain ⟨t, j, rfl⟩ := exists_libRow k
  have hk' : Next (ι := Fin 4 × Fin 16384) (fun x => (libRow x.1 x.2).val) (fun x => e (libRow x.1 x.2)) (fun x => S (libRow x.1 x.2)) (t, j) :=
    ⟨hk.1, fun x hx => hk.2 _ hx⟩
  have hmin : minOf d = ((e (libRow t j) : ℝ) : EReal) := by
    rw [minOf_at, c_top]
    simp only [hd _ _]
    exact hk'.fold
  unfold least1
  rw [firstOf_at, hmin]
  simp only [hd _ _, pay13_at]
  exact fold_first (fun x : Fin 4 × Fin 16384 => (libRow x.1 x.2).val) 65536 (by norm_num) (fun x => (libRow x.1 x.2).isLt)
    (fun x => (if S (libRow x.1 x.2) then (⊤ : EReal) else ((e (libRow x.1 x.2) : ℝ) : EReal)) = ((e (libRow t j) : ℝ) : EReal)) hk'.first

/-- And leaves the table without it. -/
theorem drop1_holds {S' : Fin 65536 → Prop} [DecidablePred S'] (hd : Holds d e S) (hk : Next (fun J : Fin 65536 => J.val) e S k)
    (hS : ∀ J, S' J ↔ S J ∨ J = k) : Holds (drop1 d) e S' := fun t j => by
  unfold drop1
  rw [least1_eq hd hk, without_at, select_eq, pay13_at, c_top, hd t j]
  by_cases h : libRow t j = k
  · rw [if_pos ((word_iff _ _).2 h), if_pos ((hS _).2 (Or.inr h))]
  · rw [if_neg (fun h' => h ((word_iff _ _).1 h'))]
    by_cases h' : S (libRow t j)
    · rw [if_pos h', if_pos ((hS _).2 (Or.inl h'))]
    · rw [if_neg h', if_neg (fun h2 => ((hS _).1 h2).elim h' h)]

/-- The entry kept is the one at the row whose word is given. -/
theorem entryOf_eq (hd : Holds d e fun _ => False) : entryOf d (BitVec.ofNat 32 k.val) = ((e k : ℝ) : EReal) := by
  obtain ⟨t, j, rfl⟩ := exists_libRow k
  rw [entryOf_at, Finset.sum_eq_single t, Finset.sum_eq_single j]
  · rw [select_eq, pay13_at, if_pos rfl, hd t j, if_neg id]
  · intro j' _ h
    rw [select_eq, pay13_at, if_neg fun h' => h (libRow_inj ((word_iff _ _).1 h')).2]
  · exact fun h => absurd (Finset.mem_univ _) h
  · intro t' _ h
    refine Finset.sum_eq_zero fun j' _ => ?_
    rw [select_eq, pay13_at, if_neg fun h' => h (libRow_inj ((word_iff _ _).1 h')).1]
  · exact fun h => absurd (Finset.mem_univ _) h

end

/-- The score of two tables of distances: the second table's values at the second and third rows of the first one's order. -/
theorem score_at {d d' : FVec Ideal S4x16384 .f32} {e e' : Fin 65536 → ℝ} (hd : Holds d e fun _ => False)
    (hd' : Holds d' e' fun _ => False) {q0 q1 q2 : Fin 65536} (h : Three e q0 q1 q2) (q : Vec Ideal S1x1 .f32) :
    score (F := Ideal) q d d' (ix2 0 0)
      = weigh (q (ix2 0 0)) (Ideal.sqrt ((e' q1 : ℝ) : EReal)) (Ideal.sqrt ((e' q2 : ℝ) : EReal)) := by
  have d1 : Holds (drop1 d) e fun J => J = q0 := drop1_holds hd h.h0 fun J => ⟨Or.inr, fun h => h.elim False.elim id⟩
  have d2 : Holds (drop1 (drop1 d)) e fun J => J = q0 ∨ J = q1 := drop1_holds d1 h.h1 fun J => Iff.rfl
  rw [score_eq, least1_eq d1 h.h1, least1_eq d2 h.h2, entryOf_eq hd', entryOf_eq hd', close_at]

end Cert.Kernel2Ideal.Hand

end
-- ==== Proof.Near2.lean ====
/-
  What the second kernel finds in its windows, and what its first pass makes of the library: each block's distances, least
  distance and nearest row, and of these the library row nearest the test row.
-/
module

public import proofs.«01_k».proof.Proof.Rounds2
public import Idealize.ShloMosaic.Lib.Claim

@[expose] public section

set_option maxRecDepth 16384

noncomputable section

namespace Cert.Kernel2Ideal.Hand

open Idealize.ShloMosaic Cert.Kernel2Ideal Cert.Kernel2Ideal.Gen Cert.Hand

/-! ### Clamped words -/

/-- A word between the bounds is left as it is. -/
theorem clamp_eq {b n : ℕ} (hb : b < 2 ^ 31) (hn : n ≤ b) :
    (Scalar.indexCast (Scalar.minsi (BitVec.ofNat 32 b) (Scalar.maxsi 0#32 (BitVec.ofNat 32 n)))).toNat = n := by
  have h1 : (BitVec.ofNat 32 n).toInt = n := by
    rw [BitVec.toInt_eq_toNat_of_lt] <;> simp only [BitVec.toNat_ofNat] <;> omega
  have h2 : IntOp.maxsi 0#32 (BitVec.ofNat 32 n) = BitVec.ofNat 32 n := by
    unfold IntOp.maxsi
    split
    · rename_i h3
      rw [BitVec.slt, h1] at h3
      simp at h3
      omega
    · rfl
  have h3 : IntOp.minsi (BitVec.ofNat 32 b) (BitVec.ofNat 32 n) = BitVec.ofNat 32 n := by
    have := minsi_ofNat (a := b) (b := n) hb (by omega)
    rwa [min_eq_right hn] at this
  have h4 : Scalar.minsi (BitVec.ofNat 32 b) (Scalar.maxsi 0#32 (BitVec.ofNat 32 n)) = BitVec.ofNat 32 n := by
    show IntOp.minsi (BitVec.ofNat 32 b) (IntOp.maxsi 0#32 (BitVec.ofNat 32 n)) = _
    rw [h2, h3]
  rw [h4]
  show (BitVec.ofNat 32 n).toNat = n
  simp only [BitVec.toNat_ofNat]
  omega

theorem off3_eq (j : Fin 16384) : k0_off3 (BitVec.ofNat 32 j.val) = ![j.val, 0] := by
  have h := clamp_eq (b := 16383) (n := j.val) (by norm_num) (by omega)
  funext a
  match a with
  | ⟨0, _⟩ => exact h
  | ⟨1, _⟩ => rfl

theorem off5_eq (t : Fin 4) : k0_off5 (BitVec.ofNat 32 t.val) = ![t.val, 0] := by
  have h := clamp_eq (b := 3) (n := t.val) (by norm_num) (by omega)
  funext a
  match a with
  | ⟨0, _⟩ => exact h
  | ⟨1, _⟩ => rfl

/-- A one-row window of a table of rows of 64, at row `r`. -/
theorem window_row {n : ℕ} {α : Type} (x : (⟨2, ![n, 64]⟩ : Shape).Idx → α) (off : Fin 2 → ℕ)
    (inb : ∀ a, off a + S1x64.size a ≤ (⟨2, ![n, 64]⟩ : Shape).size a) (r : Fin n) (hoff : off = ![r.val, 0]) (k : Fin 64) :
    VecWindow.window (s := ⟨2, ![n, 64]⟩) x off S1x64.size inb (ix2 0 k) = x (ix2 r k) := by
  subst hoff
  unfold VecWindow.window
  refine congrArg x (funext fun a => Fin.ext ?_)
  match a with
  | ⟨0, _⟩ => show r.val + 1 * 0 = r.val; omega
  | ⟨1, _⟩ => show 0 + 1 * k.val = k.val; omega

/-! ### One block -/

section
variable {v : Fin 64 → ℝ} {w : Fin 16384 → Fin 64 → ℝ} {a : Vec Ideal S1x64 .f32} {b : Vec Ideal S16384x64 .f32}
variable (ha : ∀ k, a (ix2 0 k) = ((v k : ℝ) : EReal)) (hb : ∀ j k, b (ix2 j k) = ((w j k : ℝ) : EReal))
include ha hb

theorem pay5_coe (j : Fin 16384) : k0_pay5 (F := Ideal) b a (ix2 0 j) = ((sq v (w j) : ℝ) : EReal) := by
  rw [pay5_at, pay2_at, c_two, c_one]
  simp only [ha, hb, one_mul, ← EReal.coe_mul, coe_sum, ← EReal.coe_add, ← EReal.coe_sub, ← EReal.coe_zero, coe_max]
  rfl

theorem pay7_coe (j : Fin 16384) : k0_pay7 (F := Ideal) b (k0_pay2 b) a (ix2 0 j) = ((sq v (w j) : ℝ) : EReal) := by
  rw [pay7_at, pay2_at, c_two, c_one]
  simp only [ha, hb, one_mul, ← EReal.coe_mul, coe_sum, ← EReal.coe_add, ← EReal.coe_sub, ← EReal.coe_zero, coe_max]
  rfl

variable {j : Fin 16384} (hj : Next (ι := Fin 1 × Fin 16384) (fun x => x.2.val) (fun x => sq v (w x.2)) (fun _ => False) (0, j))
include hj

theorem pay9_coe : k0_pay9 (F := Ideal) b (k0_pay2 b) a = ((sq v (w j) : ℝ) : EReal) := by
  rw [pay9_at, c_top]
  simp only [pay7_coe ha hb]
  exact hj.fold_all

theorem lane_eq : lane (F := Ideal) b a = BitVec.ofNat 32 j.val := by
  rw [lane_at, pay9_coe ha hb hj]
  simp only [pay7_coe ha hb]
  exact fold_first (fun x : Fin 1 × Fin 16384 => x.2.val) 16384 (by norm_num) (fun x => x.2.isLt)
    (fun x => ((sq v (w x.2) : ℝ) : EReal) = ((sq v (w j) : ℝ) : EReal)) hj.first_all

theorem cand_coe (k : Fin 64) :
    k0_pay12 (F := Ideal) (VecWindow.window (s := S16384x64) b (k0_off3 (lane b a)) S1x64.size (off3_in _)) (ix2 0 k)
      = ((w j k : ℝ) : EReal) := by
  rw [pay12_at]
  refine (window_row b _ _ j ?_ k).trans (hb j k)
  rw [lane_eq ha hb hj, off3_eq]

end

/-! ### The four blocks' rows -/

section
variable {e : Fin 4 → ℝ} {C : Fin 4 → Fin 64 → ℝ} {d10 : Vec Ideal S4x64 .f32} {d11 : Vec Ideal S4x1 .f32}

theorem star_coe (h10 : ∀ r k, d10 (ix2 r k) = ((C r k : ℝ) : EReal)) (h11 : ∀ r, d11 (ix2 r 0) = ((e r : ℝ) : EReal)) {t : Fin 4}
    (ht : Next (ι := Fin 4 × Fin 1) (fun x => x.1.val) (fun x => e x.1) (fun _ => False) (t, 0)) (k : Fin 64) :
    star (F := Ideal) d10 d11 (ix2 0 k) = ((C t k : ℝ) : EReal) := by
  have hp : pick (F := Ideal) d11 = BitVec.ofNat 32 t.val := by
    rw [pick_at, c_top]
    simp only [h11]
    rw [ht.fold_all]
    exact fold_first (fun x : Fin 4 × Fin 1 => x.1.val) 4 (by norm_num) (fun x => x.1.isLt)
      (fun x => ((e x.1 : ℝ) : EReal) = ((e t : ℝ) : EReal)) ht.first_all
  unfold star
  rw [pay4_at]
  refine (window_row d10 _ _ t ?_ k).trans (h10 t k)
  rw [hp, off5_eq]

end

/-! ### The windows -/

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![t.val % 4, 0] := by decide +kernel

theorem win0 (c : Dev nD) (t : Fin cfg0.N) (i j : Fin 56) :
    (iblk m c 0 t : Vec Ideal S56x56 .f32) (ix2 i j) = m ((c.tc : Thread nD τ).loc main_arg0) (ix2 i j) := by
  blk_ext [iblk, V, idx t]
theorem win1 (c : Dev nD) (t : Fin cfg0.N) (i : Fin 224) (j : Fin 56) :
    (iblk m c 1 t : Vec Ideal S224x56 .f32) (ix2 i j) = m ((c.tc : Thread nD τ).loc main_arg1) (ix2 i j) := by
  blk_ext [iblk, V, idx t]
theorem win2 (c : Dev nD) (t : Fin cfg0.N) :
    (iblk m c 2 t : Vec Ideal S1x1 .f32) (ix2 0 0) = m ((c.tc : Thread nD τ).loc main_arg2) (ix2 0 0) := by
  blk_ext [iblk, V, idx t]
theorem win3 (c : Dev nD) (t : Fin cfg0.N) (k : Fin 64) :
    (iblk m c 3 t : Vec Ideal S1x64 .f32) (ix2 0 k) = m ((c.tc : Thread nD τ).loc main_arg3) (ix2 0 k) := by
  blk_ext [iblk, V, idx t]
theorem win4 (c : Dev nD) (t : Fin cfg0.N) (r : Fin 4) (hr : t.val % 4 = r.val) (j : Fin 16384) (k : Fin 64) :
    (iblk m c 4 t : Vec Ideal S16384x64 .f32) (ix2 j k) = m ((c.tc : Thread nD τ).loc main_arg4) (ix2 (libRow r j) k) := by
  unfold libRow
  blk_ext [iblk, V, idx t]

/-! ### The results -/

section
variable {c : Dev nD} {v : Fin 64 → ℝ} {L : Fin 65536 → Fin 64 → ℝ}
variable (hv : ∀ k, (m ((c.tc : Thread nD τ).loc main_arg3) : FVec Ideal S1x64 .f32) (ix2 0 k) = ((v k : ℝ) : EReal))
variable (hL : ∀ J k, (m ((c.tc : Thread nD τ).loc main_arg4) : FVec Ideal S65536x64 .f32) (ix2 J k) = ((L J k : ℝ) : EReal))
include hv hL

theorem dist_holds : Holds (rows (k := 16384) (dist m c)) (fun J => sq v (L J)) fun _ => False := fun t j => by
  rw [if_neg id]
  show dist m c t (ix2 0 j) = _
  unfold dist
  rw [pay8_at]
  exact pay7_coe (fun k => (win3 m c _ k).trans (hv k)) (fun j k => (win4 m c (pt t) t (by show t.val % 4 = t.val; omega) j k).trans (hL _ k)) j

/-- The row kept is the first of those nearest the test row. -/
theorem nearest_coe : ∃ p : Fin 65536, Next (fun J : Fin 65536 => J.val) (fun J => sq v (L J)) (fun _ => False) p
    ∧ ∀ k, nearest m c (ix2 0 k) = ((L p k : ℝ) : EReal) := by
  have hb : ∀ (r : Fin 4) j k, (iblk m c 4 (pt r) : Vec Ideal S16384x64 .f32) (ix2 j k) = ((L (libRow r j) k : ℝ) : EReal) :=
    fun r j k => (win4 m c (pt r) r (by show r.val % 4 = r.val; omega) j k).trans (hL _ k)
  have ha : ∀ (r : Fin 4) k, (iblk m c 3 (pt r) : Vec Ideal S1x64 .f32) (ix2 0 k) = ((v k : ℝ) : EReal) :=
    fun r k => (win3 m c _ k).trans (hv k)
  have hj : ∀ r : Fin 4, ∃ j : Fin 16384,
      Next (ι := Fin 1 × Fin 16384) (fun x => x.2.val) (fun x => sq v (L (libRow r x.2))) (fun _ => False) (0, j) := fun r => by
    obtain ⟨⟨z, j⟩, h⟩ := exists_next (ι := Fin 1 × Fin 16384) (S := fun _ => False) (fun x => x.2.val)
      (fun x => sq v (L (libRow r x.2))) ⟨(0, 0), id⟩
    exact ⟨j, Subsingleton.elim z 0 ▸ h⟩
  choose f hf using hj
  obtain ⟨⟨t, z⟩, ht⟩ := exists_next (ι := Fin 4 × Fin 1) (S := fun _ => False) (fun x => x.1.val)
    (fun x => sq v (L (libRow x.1 (f x.1)))) ⟨(0, 0), id⟩
  obtain rfl := Subsingleton.elim 0 z
  refine ⟨libRow t (f t), ⟨id, fun J _ => ?_⟩, fun k => ?_⟩
  · obtain ⟨r, j, rfl⟩ := exists_libRow J
    have h1 := (hf r).2 (0, j) id
    have h2 := ht.2 (r, 0) id
    dsimp only at h1 h2
    have hfr := (f r).isLt
    have hft := (f t).isLt
    rcases h2 with h2 | ⟨h2, h2'⟩
    · exact Or.inl (h2.trans_le (h1.elim le_of_lt fun h => h.1.le))
    · rcases h1 with h1 | ⟨h1, h1'⟩
      · exact Or.inl (h2.trans_lt h1)
      · refine Or.inr ⟨h2.trans h1, ?_⟩
        show 16384 * t.val + (f t).val ≤ 16384 * r.val + j.val
        rcases Nat.lt_or_ge t.val r.val with hlt | hge
        · omega
        · obtain rfl : t = r := Fin.ext (by omega)
          omega
  · unfold nearest
    refine star_coe (e := fun r => sq v (L (libRow r (f r)))) (C := fun r => L (libRow r (f r))) (fun r k => ?_) (fun r => ?_) ht k
    · show cand m c r (ix2 0 k) = _
      unfold cand
      exact cand_coe (ha r) (hb r) (hf r) k
    · show low m c r (ix2 0 0) = _
      unfold low
      rw [pay11_at]
      exact pay9_coe (ha r) (hb r) (hf r)

theorem dist2_holds {p : Fin 65536} (hp : ∀ k, nearest m c (ix2 0 k) = ((L p k : ℝ) : EReal)) :
    Holds (rows (k := 16384) (dist2 m c)) (fun J => sq (L p) (L J)) fun _ => False := fun t j => by
  rw [if_neg id]
  show dist2 m c t (ix2 0 j) = _
  unfold dist2
  exact pay5_coe hp (fun j k => (win4 m c (qt t) t (by show (t.val + 4) % 4 = t.val; omega) j k).trans (hL _ k)) j

/-- The score, from the nearest library row and the second and third rows nearest to that. -/
theorem result_coe : ∃ p q0 q1 q2 : Fin 65536, Next (fun J : Fin 65536 => J.val) (fun J => sq v (L J)) (fun _ => False) p
    ∧ Three (fun J => sq (L p) (L J)) q0 q1 q2
    ∧ result m c (ix2 0 0) = weigh (m ((c.tc : Thread nD τ).loc main_arg2) (ix2 0 0)) (Ideal.sqrt ((sq v (L q1) : ℝ) : EReal))
        (Ideal.sqrt ((sq v (L q2) : ℝ) : EReal)) := by
  obtain ⟨p, hp, hn⟩ := nearest_coe m hv hL
  obtain ⟨q0, q1, q2, hq⟩ := exists_three fun J => sq (L p) (L J)
  refine ⟨p, q0, q1, q2, hp, hq, ?_⟩
  unfold result
  rw [score_at (dist2_holds m hv hL hn) (dist_holds m hv hL) hq, win2]

end

/-- The map: the root of the image, scaled by the matrix on both sides. -/
theorem map_at (c : Dev nD) (x : FVec Ideal S56x56 .f32) (a : FVec Ideal S224x56 .f32) (hx : m ((c.tc : Thread nD τ).loc main_arg0) = x)
    (ha : m ((c.tc : Thread nD τ).loc main_arg1) = a) (i j : Fin 224) :
    map m c (ix2 i j) = ∑ l : Fin 56, (∑ k : Fin 56, a (ix2 i k) * Ideal.sqrt (x (ix2 k l))) * a (ix2 j l) := by
  unfold map
  rw [pay1_at]
  simp only [win0, win1, hx, ha]

end Cert.Kernel2Ideal.Hand

end
-- ==== Proof.Ends2.lean ====
/-
  The second kernel's run, read at its end: each result window is its whole array, written back once, at the last point.
-/
module

public import proofs.«01_k».proof.Proof.Region

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

variable {F : FTy → Type} [FloatOps F]

theorem idxOut : ∀ t : Fin cfg0.N, win0_5.index t = ![0, 0] ∧ win0_6.index t = ![0, 0] := by decide +kernel
theorem flushOut : win0_5.flush t0_7 = true ∧ win0_6.flush t0_7 = true := by decide +kernel

theorem mem5 (t : Fin cfg0.N) (i : S1x1.Idx) : i ∈ ((cfg0.win 5).blk t).view.set := by
  show i ∈ ((View.whole main_v0_0).slice (win0_5.rect t)).set
  rw [View.set_slice_whole, Rect.mem_set_unit]
  intro a
  have h : (i a).val < S1x1.size a := (i a).isLt
  have e : win0_5.index t a = 0 := by rw [(idxOut t).1]; fin_cases a <;> rfl
  show win0_5.index t a * S1x1.size a ≤ (i a).val ∧ (i a).val < win0_5.index t a * S1x1.size a + S1x1.size a
  rw [e]
  omega

theorem mem6 (t : Fin cfg0.N) (i : S224x224.Idx) : i ∈ ((cfg0.win 6).blk t).view.set := by
  show i ∈ ((View.whole main_v0_1).slice (win0_6.rect t)).set
  rw [View.set_slice_whole, Rect.mem_set_unit]
  intro a
  have h : (i a).val < S224x224.size a := (i a).isLt
  have e : win0_6.index t a = 0 := by rw [(idxOut t).2]; fin_cases a <;> rfl
  show win0_6.index t a * S224x224.size a ≤ (i a).val ∧ (i a).val < win0_6.index t a * S224x224.size a + S224x224.size a
  rw [e]
  omega

variable (m : (ℓ : Loc nD τ sig) → Buf (Elt F) ℓ) (ρ : Dev nD → PrngReg)

theorem final5 (c : Dev nD) : (dats m 0 c).arrAt 5 cfg0.N = result m c :=
  (dats m 0 c).arrAt_eq_of_cover 5 _ (fun t _ => by
    show (cfg0.win 5).cut (grid0.coords t) ((dats m 0 c).after 5 t) = _
    rw [after_5]
    funext y
    show result m c ((cfg0.win 5).xinj (grid0.coords t) y) = result m c (((cfg0.win 5).blk t).view.emb y)
    refine congrArg (result m c) (funext fun a => Fin.ext ?_)
    have e : win0_5.index t a = 0 := by rw [(idxOut t).1]; fin_cases a <;> rfl
    show (y a).val = win0_5.index t a * S1x1.size a + 1 * (y a).val
    rw [e]
    omega) (fun i => ⟨t0_7, flushOut.1, mem5 t0_7 i⟩)

theorem final6 (c : Dev nD) : (dats m 0 c).arrAt 6 cfg0.N = map m c :=
  (dats m 0 c).arrAt_eq_of_cover 6 _ (fun t _ => by
    show (cfg0.win 6).cut (grid0.coords t) ((dats m 0 c).after 6 t) = _
    rw [after_6]
    funext y
    show map m c ((cfg0.win 6).xinj (grid0.coords t) y) = map m c (((cfg0.win 6).blk t).view.emb y)
    refine congrArg (map m c) (funext fun a => Fin.ext ?_)
    have e : win0_6.index t a = 0 := by rw [(idxOut t).2]; fin_cases a <;> rfl
    show (y a).val = win0_6.index t a * S224x224.size a + 1 * (y a).val
    rw [e]
    omega) (fun i => ⟨t0_7, flushOut.2, mem6 t0_7 i⟩)

/-- Every run ends with the score and the map in the result arrays, and the arguments as they were. -/
theorem ends : θ_run defs (onTc (τ := τ) (main (F := F))) ⟨m, fun _ => 0, ρ⟩ fun r => ∀ c : Dev nD,
    r.2.mem ((c.tc : Thread nD τ).loc main_v0_0) = result m c
    ∧ r.2.mem ((c.tc : Thread nD τ).loc main_v0_1) = map m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  θ_run_mono (θ_run_and (run_main m ρ) (frame2 m ρ)) fun r h c =>
    ⟨((h.1 c).1 5).trans (final5 m c), ((h.1 c).1 6).trans (final6 m c), h.2.1 c⟩

end Cert.Kernel2Ideal.Hand

end
-- ==== Proof.RefRun2.lean ====
/-
  The second reference's run, read by hand: its line of host operations, the arrays it computes on the way named one by one,
  and the two arrays it returns as functions of its five arguments.
-/
module

public import proofs.«01_k».proof.Proof.Gen.Reference2Ideal
public import Idealize.ShloMosaic.Lib.StableHlo.RunRead
public import Idealize.ShloMosaic.Lib.StableHlo.RunHlo
public import Idealize.ShloMosaic.Lib.Quiescent

@[expose] public section

set_option maxRecDepth 16384

noncomputable section

namespace Cert.Reference2Ideal.Hand

open Idealize.ShloMosaic Idealize.ShloMosaic.StableHlo Idealize.ShloMosaic.TcCoe Idealize.SL.Sem
open Cert.Reference2Ideal Cert.Reference2Ideal.Gen

variable {F : FTy → Type} [FloatOps F]

/-- The distances of a row to all library rows: the root of the expanded square, which is kept from being negative. -/
def dists (x : FVec F S1x64 .f32) (y : FVec F S65536x64 .f32) : FVec F S1x65536 .f32 :=
  Host.sqrt (maximumf (subf (addf
      (broadcastInDim S1x65536 ![0, 1] bcast_S1x1_S1x65536_0_1 (broadcastInDim S1x1 ![0] bcast_S1_S1x1_0
        (Host.reduceAdd (mulf x x) (constant S_ .f32 0x00000000#32) reducesTo_S1x64_S1_d1 h_S_)))
      (broadcastInDim S1x65536 ![1] bcast_S65536_S1x65536_1
        (Host.reduceAdd (mulf y y) (constant S_ .f32 0x00000000#32) reducesTo_S65536x64_S65536_d1 h_S_)))
      (mulf (broadcastInDim S1x65536 ![] bcast_S_S1x65536 (constant S_ .f32 0x40000000#32))
        (Host.dotGeneral dot_S1x64_S64x65536_S1x65536_1_0_0_1_n_n none x
          (transpose S64x65536 [1, 0] y transposes_S65536x64_S64x65536_1_0))))
    (broadcastInDim S1x65536 ![] bcast_S_S1x65536 (constant S_ .f32 0x00000000#32)))

/-- The smallest of the distances. -/
def minDist (d : FVec F S1x65536 .f32) : FVec F S_ .f32 :=
  Host.reduce FloatOps.minimumf d (constant S_ .f32 0x7F800000#32) reducesTo_S1x65536_S_d0_1 h_S_

/-- The first library row at the smallest distance. -/
def firstMin (d : FVec F S1x65536 .f32) : IVec S_ 32 :=
  Host.reduce IntOp.minsi (select (cmpf .oeq (shapeCast S65536 d shapeCasts_S1x65536_S65536) (broadcastInDim S65536 ![] bcast_S_S65536 (minDist d)))
    (iotaInDim S65536 32 0) (broadcastInDim S65536 ![] bcast_S_S65536 (constantI S_ 32 65536#32))) (constantI S_ 32 2147483647#32)
    reducesTo_S65536_S_d0 h_S_

/-- A row index, counted from the end when it is negative. -/
def wrapped (i : IVec S_ 32) : IVec S_ 32 :=
  select (cmpi .slt i (constantI S_ 32 0#32)) (addi i (constantI S_ 32 65536#32)) i

/-- The first column, by the same rule. -/
def columnStart : IVec S_ 32 :=
  select (cmpi .slt (constantI S_ 32 0#32) (constantI S_ 32 0#32)) (addi (constantI S_ 32 0#32) (constantI S_ 32 64#32)) (constantI S_ 32 0#32)

/-- The two starts of that row. -/
def starts (i : IVec S_ 32) : Fin 2 → IVec S_ 32
  | 0 => wrapped i
  | 1 => columnStart

/-- The library row at an index. -/
def rowPick (y : FVec F S65536x64 .f32) (i : IVec S_ 32) : FVec F S1x64 .f32 :=
  broadcastInDim S1x64 ![1] bcast_S64_S1x64_1 (shapeCast S64 (Host.dynamicSlice S1x64 y
    (fun k => (starts i k (Shape.Idx.first h_S_)).toInt) sliceFits_S65536x64_S1x64) shapeCasts_S1x64_S64)

/-- The three nearest library rows by these distances, in order. -/
def order (d : FVec F S1x65536 .f32) : IVec S1x3 32 :=
  (Host.topK S1x3 1 (FloatOps.cmpfTotal .gt) (Host.negf d) sliceFits_S1x65536_S1x3).2

/-- The second and the third of them. -/
def second (o : IVec S1x3 32) : IVec S2 32 :=
  shapeCast S2 (extractStridedSlice S1x2 ![0, 1] o slices_S1x3_S1x2_0_1) shapeCasts_S1x2_S2

/-- They, counted from the end where negative. -/
def pair (o : IVec S1x3 32) : IVec S2 32 :=
  select (cmpi .slt (second o) (broadcastInDim S2 ![] bcast_S_S2 (constantI S_ 32 0#32)))
    (addi (second o) (broadcastInDim S2 ![] bcast_S_S2 (constantI S_ 32 65536#32))) (second o)

/-- The differences of the test row to two library rows. -/
def gapRows (x : FVec F S1x64 .f32) (y : FVec F S65536x64 .f32) (n : IVec S2 32) : FVec F S2x64 .f32 :=
  subf (broadcastInDim S2x64 ![0, 1] bcast_S1x64_S2x64_0_1 x)
    (Host.gather gather_S65536x64_S2x1_S2x64_1_0_n_n_0_1_164 y (broadcastInDim S2x1 ![0] bcast_S2_S2x1_0 n))

/-- Their lengths. -/
def gaps (x : FVec F S1x64 .f32) (y : FVec F S65536x64 .f32) (n : IVec S2 32) : FVec F S2 .f32 :=
  Host.sqrt (Host.reduceAdd (mulf (gapRows x y n) (gapRows x y n)) (constant S_ .f32 0x00000000#32) reducesTo_S2x64_S2_d1 h_S_)

/-- The reweighted score. -/
def score (q : FVec F S1x1 .f32) (g : FVec F S2 .f32) : FVec F S1x1 .f32 :=
  broadcastInDim S1x1 ![] bcast_S_S1x1 (mulf
    (subf (constant S_ .f32 0x3F800000#32)
      (Host.divf (Host.exp (Host.divf (Host.sqrt (shapeCast S_ q shapeCasts_S1x1_S_)) (Host.sqrt (constant S_ .f32 0x42800000#32))))
        (Host.reduceAdd (Host.exp (Host.divf g (broadcastInDim S2 ![] bcast_S_S2 (Host.sqrt (constant S_ .f32 0x42800000#32)))))
          (constant S_ .f32 0x00000000#32) reducesTo_S2_S_d0 h_S_)))
    (Host.sqrt (shapeCast S_ q shapeCasts_S1x1_S_)))

/-- The score map: the root of the image, scaled by the matrix on both sides. -/
def map (a0 : FVec F S56x56 .f32) (a1 : FVec F S224x56 .f32) : FVec F S224x224 .f32 :=
  Host.dotGeneral dot_S224x56_S56x224_S224x224_1_0_0_1_n_n none
    (Host.dotGeneral dot_S224x56_S56x56_S224x56_1_0_0_1_n_n none a1 (Host.sqrt a0))
    (transpose S56x224 [1, 0] a1 transposes_S224x56_S56x224_1_0)

/-- The reference's operations in order. -/
abbrev line : List (HloOp τ sig (Elt F)) :=
  [ binary main_arg3 main_arg3 main_v0 (mulf : (⟨S1x64, .f32⟩ : BufTy).Contents (Elt F) → (⟨S1x64, .f32⟩ : BufTy).Contents (Elt F) → (⟨S1x64, .f32⟩ : BufTy).Contents (Elt F)),
    nullary main_cst (constant S_ .f32 0x00000000#32),
    binary main_v0 main_cst main_v1 ((fun x v => Host.reduceAdd x v reducesTo_S1x64_S1_d1 h_S_) : (⟨S1x64, .f32⟩ : BufTy).Contents (Elt F) → (⟨S_, .f32⟩ : BufTy).Contents (Elt F) → (⟨S1, .f32⟩ : BufTy).Contents (Elt F)),
    unary main_v1 main_v2 (broadcastInDim S1x1 ![0] bcast_S1_S1x1_0 : (⟨S1, .f32⟩ : BufTy).Contents (Elt F) → (⟨S1x1, .f32⟩ : BufTy).Contents (Elt F)),
    binary main_arg4 main_arg4 main_v3 (mulf : (⟨S65536x64, .f32⟩ : BufTy).Contents (Elt F) → (⟨S65536x64, .f32⟩ : BufTy).Contents (Elt F) → (⟨S65536x64, .f32⟩ : BufTy).Contents (Elt F)),
    nullary main_cst_0 (constant S_ .f32 0x00000000#32),
    binary main_v3 main_cst_0 main_v4 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v4 main_v5 (broadcastInDim S1x65536 ![1] bcast_S65536_S1x65536_1 : (⟨S65536, .f32⟩ : BufTy).Contents (Elt F) → (⟨S1x65536, .f32⟩ : BufTy).Contents (Elt F)),
    unary main_v2 main_v6 (broadcastInDim S1x65536 ![0, 1] bcast_S1x1_S1x65536_0_1 : (⟨S1x1, .f32⟩ : BufTy).Contents (Elt F) → (⟨S1x65536, .f32⟩ : BufTy).Contents (Elt F)),
    binary main_v6 main_v5 main_v7 (addf : (⟨S1x65536, .f32⟩ : BufTy).Contents (Elt F) → (⟨S1x65536, .f32⟩ : BufTy).Contents (Elt F) → (⟨S1x65536, .f32⟩ : BufTy).Contents (Elt F)),
    unary main_arg4 main_v8 ((transpose S64x65536 [1, 0] · transposes_S65536x64_S64x65536_1_0) : (⟨S65536x64, .f32⟩ : BufTy).Contents (Elt F) → (⟨S64x65536, .f32⟩ : BufTy).Contents (Elt F)),
    binary main_arg3 main_v8 main_v9 ((fun l r => Host.dotGeneral dot_S1x64_S64x65536_S1x65536_1_0_0_1_n_n none l r) : (⟨S1x64, .f32⟩ : BufTy).Contents (Elt F) → (⟨S64x65536, .f32⟩ : BufTy).Contents (Elt F) → (⟨S1x65536, .f32⟩ : BufTy).Contents (Elt F)),
    nullary main_cst_1 (constant S_ .f32 0x40000000#32),
    unary main_cst_1 main_v10 (broadcastInDim S1x65536 ![] bcast_S_S1x65536 : (⟨S_, .f32⟩ : BufTy).Contents (Elt F) → (⟨S1x65536, .f32⟩ : BufTy).Contents (Elt F)),
    binary main_v10 main_v9 main_v11 (mulf : (⟨S1x65536, .f32⟩ : BufTy).Contents (Elt F) → (⟨S1x65536, .f32⟩ : BufTy).Contents (Elt F) → (⟨S1x65536, .f32⟩ : BufTy).Contents (Elt F)),
    binary main_v7 main_v11 main_v12 (subf : (⟨S1x65536, .f32⟩ : BufTy).Contents (Elt F) → (⟨S1x65536, .f32⟩ : BufTy).Contents (Elt F) → (⟨S1x65536, .f32⟩ : BufTy).Contents (Elt F)),
    nullary main_cst_2 (constant S_ .f32 0x00000000#32),
    unary main_cst_2 main_v13 (broadcastInDim S1x65536 ![] bcast_S_S1x65536 : (⟨S_, .f32⟩ : BufTy).Contents (Elt F) → (⟨S1x65536, .f32⟩ : BufTy).Contents (Elt F)),
    binary main_v12 main_v13 main_v14 (maximumf : (⟨S1x65536, .f32⟩ : BufTy).Contents (Elt F) → (⟨S1x65536, .f32⟩ : BufTy).Contents (Elt F) → (⟨S1x65536, .f32⟩ : BufTy).Contents (Elt F)),
    unary main_v14 main_v15 (Host.sqrt : (⟨S1x65536, .f32⟩ : BufTy).Contents (Elt F) → (⟨S1x65536, .f32⟩ : BufTy).Contents (Elt F)),
    reshape main_v15 main_v16 (rfl : (.f32 : EltTy) = .f32) shapeCasts_S1x65536_S65536,
    nullary main_cst_3 (constant S_ .f32 0x7F800000#32),
    binary main_v15 main_cst_3 main_v17 ((fun x v => Host.reduce FloatOps.minimumf x v reducesTo_S1x65536_S_d0_1 h_S_) : (⟨S1x65536, .f32⟩ : BufTy).Contents (Elt F) → (⟨S_, .f32⟩ : BufTy).Contents (Elt F) → (⟨S_, .f32⟩ : BufTy).Contents (Elt F)),
    unary main_v17 main_v18 (broadcastInDim S65536 ![] bcast_S_S65536 : (⟨S_, .f32⟩ : BufTy).Contents (Elt F) → (⟨S65536, .f32⟩ : BufTy).Contents (Elt F)),
    binary main_v16 main_v18 main_v19 (cmpf .oeq : (⟨S65536, .f32⟩ : BufTy).Contents (Elt F) → (⟨S65536, .f32⟩ : BufTy).Contents (Elt F) → (⟨S65536, .i1⟩ : BufTy).Contents (Elt F)),
    nullary main_v20 (iotaInDim S65536 32 0),
    nullary main_c (constantI S_ 32 65536#32),
    TRef.unary (TRef.of (T := ⟨S_, .i32⟩) main_c) (TRef.of (T := ⟨S_, .i32⟩) main_call0_v0) id,
    TRef.unary (TRef.of (T := ⟨S_, .i32⟩) main_call0_v0) (TRef.of (T := ⟨S65536, .i32⟩) main_call0_v1) (broadcastInDim S65536 ![] bcast_S_S65536),
    TRef.ternary (TRef.of (T := ⟨S65536, .i1⟩) main_v19) (TRef.of (T := ⟨S65536, .i32⟩) main_v20) (TRef.of (T := ⟨S65536, .i32⟩) main_call0_v1) (TRef.of (T := ⟨S65536, .i32⟩) main_v21) select,
    nullary main_c_4 (constantI S_ 32 2147483647#32),
    binary main_v21 main_c_4 main_v22 ((fun x v => Host.reduce IntOp.minsi x v reducesTo_S65536_S_d0 h_S_) : (⟨S65536, .i32⟩ : BufTy).Contents (Elt F) → (⟨S_, .i32⟩ : BufTy).Contents (Elt F) → (⟨S_, .i32⟩ : BufTy).Contents (Elt F)),
    nullary main_c_5 (constantI S_ 32 0#32),
    binary main_v22 main_c_5 main_v23 (cmpi .slt : (⟨S_, .i32⟩ : BufTy).Contents (Elt F) → (⟨S_, .i32⟩ : BufTy).Contents (Elt F) → (⟨S_, .i1⟩ : BufTy).Contents (Elt F)),
    nullary main_c_6 (constantI S_ 32 65536#32),
    binary main_v22 main_c_6 main_v24 (addi : (⟨S_, .i32⟩ : BufTy).Contents (Elt F) → (⟨S_, .i32⟩ : BufTy).Contents (Elt F) → (⟨S_, .i32⟩ : BufTy).Contents (Elt F)),
    ternary main_v23 main_v24 main_v22 main_v25 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_7 (constantI S_ 32 0#32),
    nullary main_c_8 (constantI S_ 32 0#32),
    binary main_c_7 main_c_8 main_v26 (cmpi .slt : (⟨S_, .i32⟩ : BufTy).Contents (Elt F) → (⟨S_, .i32⟩ : BufTy).Contents (Elt F) → (⟨S_, .i1⟩ : BufTy).Contents (Elt F)),
    nullary main_c_9 (constantI S_ 32 0#32),
    nullary main_c_10 (constantI S_ 32 64#32),
    binary main_c_9 main_c_10 main_v27 (addi : (⟨S_, .i32⟩ : BufTy).Contents (Elt F) → (⟨S_, .i32⟩ : BufTy).Contents (Elt F) → (⟨S_, .i32⟩ : BufTy).Contents (Elt F)),
    nullary main_c_11 (constantI S_ 32 0#32),
    ternary main_v26 main_v27 main_c_11 main_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v25, main_v28] ⟨S_, .i32⟩ main_v29 ((fun x i => Host.dynamicSlice S1x64 x (fun k => (i k (Shape.Idx.first h_S_)).toInt) sliceFits_S65536x64_S1x64) : (⟨S65536x64, .f32⟩ : BufTy).Contents (Elt F) → (Fin 2 → (⟨S_, .i32⟩ : BufTy).Contents (Elt F)) → (⟨S1x64, .f32⟩ : BufTy).Contents (Elt F)),
    reshape main_v29 main_v30 (rfl : (.f32 : EltTy) = .f32) shapeCasts_S1x64_S64,
    unary main_v30 main_v31 (broadcastInDim S1x64 ![1] bcast_S64_S1x64_1 : (⟨S64, .f32⟩ : BufTy).Contents (Elt F) → (⟨S1x64, .f32⟩ : BufTy).Contents (Elt F)),
    binary main_v31 main_v31 main_v32 (mulf : (⟨S1x64, .f32⟩ : BufTy).Contents (Elt F) → (⟨S1x64, .f32⟩ : BufTy).Contents (Elt F) → (⟨S1x64, .f32⟩ : BufTy).Contents (Elt F)),
    nullary main_cst_12 (constant S_ .f32 0x00000000#32),
    binary main_v32 main_cst_12 main_v33 ((fun x v => Host.reduceAdd x v reducesTo_S1x64_S1_d1 h_S_) : (⟨S1x64, .f32⟩ : BufTy).Contents (Elt F) → (⟨S_, .f32⟩ : BufTy).Contents (Elt F) → (⟨S1, .f32⟩ : BufTy).Contents (Elt F)),
    unary main_v33 main_v34 (broadcastInDim S1x1 ![0] bcast_S1_S1x1_0 : (⟨S1, .f32⟩ : BufTy).Contents (Elt F) → (⟨S1x1, .f32⟩ : BufTy).Contents (Elt F)),
    binary main_arg4 main_arg4 main_v35 (mulf : (⟨S65536x64, .f32⟩ : BufTy).Contents (Elt F) → (⟨S65536x64, .f32⟩ : BufTy).Contents (Elt F) → (⟨S65536x64, .f32⟩ : BufTy).Contents (Elt F)),
    nullary main_cst_13 (constant S_ .f32 0x00000000#32),
    binary main_v35 main_cst_13 main_v36 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v36 main_v37 (broadcastInDim S1x65536 ![1] bcast_S65536_S1x65536_1 : (⟨S65536, .f32⟩ : BufTy).Contents (Elt F) → (⟨S1x65536, .f32⟩ : BufTy).Contents (Elt F)),
    unary main_v34 main_v38 (broadcastInDim S1x65536 ![0, 1] bcast_S1x1_S1x65536_0_1 : (⟨S1x1, .f32⟩ : BufTy).Contents (Elt F) → (⟨S1x65536, .f32⟩ : BufTy).Contents (Elt F)),
    binary main_v38 main_v37 main_v39 (addf : (⟨S1x65536, .f32⟩ : BufTy).Contents (Elt F) → (⟨S1x65536, .f32⟩ : BufTy).Contents (Elt F) → (⟨S1x65536, .f32⟩ : BufTy).Contents (Elt F)),
    unary main_arg4 main_v40 ((transpose S64x65536 [1, 0] · transposes_S65536x64_S64x65536_1_0) : (⟨S65536x64, .f32⟩ : BufTy).Contents (Elt F) → (⟨S64x65536, .f32⟩ : BufTy).Contents (Elt F)),
    binary main_v31 main_v40 main_v41 ((fun l r => Host.dotGeneral dot_S1x64_S64x65536_S1x65536_1_0_0_1_n_n none l r) : (⟨S1x64, .f32⟩ : BufTy).Contents (Elt F) → (⟨S64x65536, .f32⟩ : BufTy).Contents (Elt F) → (⟨S1x65536, .f32⟩ : BufTy).Contents (Elt F)),
    nullary main_cst_14 (constant S_ .f32 0x40000000#32),
    unary main_cst_14 main_v42 (broadcastInDim S1x65536 ![] bcast_S_S1x65536 : (⟨S_, .f32⟩ : BufTy).Contents (Elt F) → (⟨S1x65536, .f32⟩ : BufTy).Contents (Elt F)),
    binary main_v42 main_v41 main_v43 (mulf : (⟨S1x65536, .f32⟩ : BufTy).Contents (Elt F) → (⟨S1x65536, .f32⟩ : BufTy).Contents (Elt F) → (⟨S1x65536, .f32⟩ : BufTy).Contents (Elt F)),
    binary main_v39 main_v43 main_v44 (subf : (⟨S1x65536, .f32⟩ : BufTy).Contents (Elt F) → (⟨S1x65536, .f32⟩ : BufTy).Contents (Elt F) → (⟨S1x65536, .f32⟩ : BufTy).Contents (Elt F)),
    nullary main_cst_15 (constant S_ .f32 0x00000000#32),
    unary main_cst_15 main_v45 (broadcastInDim S1x65536 ![] bcast_S_S1x65536 : (⟨S_, .f32⟩ : BufTy).Contents (Elt F) → (⟨S1x65536, .f32⟩ : BufTy).Contents (Elt F)),
    binary main_v44 main_v45 main_v46 (maximumf : (⟨S1x65536, .f32⟩ : BufTy).Contents (Elt F) → (⟨S1x65536, .f32⟩ : BufTy).Contents (Elt F) → (⟨S1x65536, .f32⟩ : BufTy).Contents (Elt F)),
    unary main_v46 main_v47 (Host.sqrt : (⟨S1x65536, .f32⟩ : BufTy).Contents (Elt F) → (⟨S1x65536, .f32⟩ : BufTy).Contents (Elt F)),
    unary main_v47 main_v48 (Host.negf : (⟨S1x65536, .f32⟩ : BufTy).Contents (Elt F) → (⟨S1x65536, .f32⟩ : BufTy).Contents (Elt F)),
    unary main_v48 main_values ((fun x => (Host.topK S1x3 1 (FloatOps.cmpfTotal .gt) x sliceFits_S1x65536_S1x3).1) : (⟨S1x65536, .f32⟩ : BufTy).Contents (Elt F) → (⟨S1x3, .f32⟩ : BufTy).Contents (Elt F)),
    unary main_v48 main_indices ((fun x => (Host.topK S1x3 1 (FloatOps.cmpfTotal .gt) x sliceFits_S1x65536_S1x3).2) : (⟨S1x65536, .f32⟩ : BufTy).Contents (Elt F) → (⟨S1x3, .i32⟩ : BufTy).Contents (Elt F)),
    unary main_indices main_v49 ((extractStridedSlice S1x2 ![0, 1] · slices_S1x3_S1x2_0_1) : (⟨S1x3, .i32⟩ : BufTy).Contents (Elt F) → (⟨S1x2, .i32⟩ : BufTy).Contents (Elt F)),
    reshape main_v49 main_v50 (rfl : (.i32 : EltTy) = .i32) shapeCasts_S1x2_S2,
    nullary main_c_16 (constantI S_ 32 0#32),
    unary main_c_16 main_v51 (broadcastInDim S2 ![] bcast_S_S2 : (⟨S_, .i32⟩ : BufTy).Contents (Elt F) → (⟨S2, .i32⟩ : BufTy).Contents (Elt F)),
    binary main_v50 main_v51 main_v52 (cmpi .slt : (⟨S2, .i32⟩ : BufTy).Contents (Elt F) → (⟨S2, .i32⟩ : BufTy).Contents (Elt F) → (⟨S2, .i1⟩ : BufTy).Contents (Elt F)),
    nullary main_c_17 (constantI S_ 32 65536#32),
    unary main_c_17 main_v53 (broadcastInDim S2 ![] bcast_S_S2 : (⟨S_, .i32⟩ : BufTy).Contents (Elt F) → (⟨S2, .i32⟩ : BufTy).Contents (Elt F)),
    binary main_v50 main_v53 main_v54 (addi : (⟨S2, .i32⟩ : BufTy).Contents (Elt F) → (⟨S2, .i32⟩ : BufTy).Contents (Elt F) → (⟨S2, .i32⟩ : BufTy).Contents (Elt F)),
    ternary main_v52 main_v54 main_v50 main_v55 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v55 main_v56 (broadcastInDim S2x1 ![0] bcast_S2_S2x1_0 : (⟨S2, .i32⟩ : BufTy).Contents (Elt F) → (⟨S2x1, .i32⟩ : BufTy).Contents (Elt F)),
    binary main_arg4 main_v56 main_v57 ((fun x i => Host.gather gather_S65536x64_S2x1_S2x64_1_0_n_n_0_1_164 x i) : (⟨S65536x64, .f32⟩ : BufTy).Contents (Elt F) → (⟨S2x1, .i32⟩ : BufTy).Contents (Elt F) → (⟨S2x64, .f32⟩ : BufTy).Contents (Elt F)),
    unary main_arg3 main_v58 (broadcastInDim S2x64 ![0, 1] bcast_S1x64_S2x64_0_1 : (⟨S1x64, .f32⟩ : BufTy).Contents (Elt F) → (⟨S2x64, .f32⟩ : BufTy).Contents (Elt F)),
    binary main_v58 main_v57 main_v59 (subf : (⟨S2x64, .f32⟩ : BufTy).Contents (Elt F) → (⟨S2x64, .f32⟩ : BufTy).Contents (Elt F) → (⟨S2x64, .f32⟩ : BufTy).Contents (Elt F)),
    TRef.binary (TRef.of (T := ⟨S2x64, .f32⟩) main_v59) (TRef.of (T := ⟨S2x64, .f32⟩) main_v59) (TRef.of (T := ⟨S2x64, .f32⟩) main_call1_v0) mulf,
    TRef.nullary (TRef.of (T := ⟨S_, .f32⟩) main_call1_cst) (constant S_ .f32 0x00000000#32),
    TRef.binary (TRef.of (T := ⟨S2x64, .f32⟩) main_call1_v0) (TRef.of (T := ⟨S_, .f32⟩) main_call1_cst) (TRef.of (T := ⟨S2, .f32⟩) main_call1_v1) (fun x v => Host.reduceAdd x v reducesTo_S2x64_S2_d1 h_S_),
    TRef.unary (TRef.of (T := ⟨S2, .f32⟩) main_call1_v1) (TRef.of (T := ⟨S2, .f32⟩) main_v60) Host.sqrt,
    reshape main_arg2 main_v61 (rfl : (.f32 : EltTy) = .f32) shapeCasts_S1x1_S_,
    unary main_v61 main_v62 (Host.sqrt : (⟨S_, .f32⟩ : BufTy).Contents (Elt F) → (⟨S_, .f32⟩ : BufTy).Contents (Elt F)),
    nullary main_cst_18 (constant S_ .f32 0x42800000#32),
    unary main_cst_18 main_v63 (Host.sqrt : (⟨S_, .f32⟩ : BufTy).Contents (Elt F) → (⟨S_, .f32⟩ : BufTy).Contents (Elt F)),
    binary main_v62 main_v63 main_v64 (Host.divf : (⟨S_, .f32⟩ : BufTy).Contents (Elt F) → (⟨S_, .f32⟩ : BufTy).Contents (Elt F) → (⟨S_, .f32⟩ : BufTy).Contents (Elt F)),
    unary main_v64 main_v65 (Host.exp : (⟨S_, .f32⟩ : BufTy).Contents (Elt F) → (⟨S_, .f32⟩ : BufTy).Contents (Elt F)),
    unary main_v63 main_v66 (broadcastInDim S2 ![] bcast_S_S2 : (⟨S_, .f32⟩ : BufTy).Contents (Elt F) → (⟨S2, .f32⟩ : BufTy).Contents (Elt F)),
    binary main_v60 main_v66 main_v67 (Host.divf : (⟨S2, .f32⟩ : BufTy).Contents (Elt F) → (⟨S2, .f32⟩ : BufTy).Contents (Elt F) → (⟨S2, .f32⟩ : BufTy).Contents (Elt F)),
    unary main_v67 main_v68 (Host.exp : (⟨S2, .f32⟩ : BufTy).Contents (Elt F) → (⟨S2, .f32⟩ : BufTy).Contents (Elt F)),
    nullary main_cst_19 (constant S_ .f32 0x00000000#32),
    binary main_v68 main_cst_19 main_v69 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    binary main_v65 main_v69 main_v70 (Host.divf : (⟨S_, .f32⟩ : BufTy).Contents (Elt F) → (⟨S_, .f32⟩ : BufTy).Contents (Elt F) → (⟨S_, .f32⟩ : BufTy).Contents (Elt F)),
    nullary main_cst_20 (constant S_ .f32 0x3F800000#32),
    binary main_cst_20 main_v70 main_v71 (subf : (⟨S_, .f32⟩ : BufTy).Contents (Elt F) → (⟨S_, .f32⟩ : BufTy).Contents (Elt F) → (⟨S_, .f32⟩ : BufTy).Contents (Elt F)),
    binary main_v71 main_v62 main_v72 (mulf : (⟨S_, .f32⟩ : BufTy).Contents (Elt F) → (⟨S_, .f32⟩ : BufTy).Contents (Elt F) → (⟨S_, .f32⟩ : BufTy).Contents (Elt F)),
    unary main_v72 main_v73 (broadcastInDim S1x1 ![] bcast_S_S1x1 : (⟨S_, .f32⟩ : BufTy).Contents (Elt F) → (⟨S1x1, .f32⟩ : BufTy).Contents (Elt F)),
    unary main_arg0 main_v74 (Host.sqrt : (⟨S56x56, .f32⟩ : BufTy).Contents (Elt F) → (⟨S56x56, .f32⟩ : BufTy).Contents (Elt F)),
    binary main_arg1 main_v74 main_v75 ((fun l r => Host.dotGeneral dot_S224x56_S56x56_S224x56_1_0_0_1_n_n none l r) : (⟨S224x56, .f32⟩ : BufTy).Contents (Elt F) → (⟨S56x56, .f32⟩ : BufTy).Contents (Elt F) → (⟨S224x56, .f32⟩ : BufTy).Contents (Elt F)),
    unary main_arg1 main_v76 ((transpose S56x224 [1, 0] · transposes_S224x56_S56x224_1_0) : (⟨S224x56, .f32⟩ : BufTy).Contents (Elt F) → (⟨S56x224, .f32⟩ : BufTy).Contents (Elt F)),
    binary main_v75 main_v76 main_v77 ((fun l r => Host.dotGeneral dot_S224x56_S56x224_S224x224_1_0_0_1_n_n none l r) : (⟨S224x56, .f32⟩ : BufTy).Contents (Elt F) → (⟨S56x224, .f32⟩ : BufTy).Contents (Elt F) → (⟨S224x224, .f32⟩ : BufTy).Contents (Elt F)) ]

set_option maxHeartbeats 4000000 in
theorem main_line (c : Dev nD) : main (F := F) c = seq line := rfl

theorem line_sub : (line : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., nullary_bufs_sub .., binary_bufs_sub .., unary_bufs_sub .., binary_bufs_sub .., nullary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., binary_bufs_sub .., nullary_bufs_sub .., binary_bufs_sub .., unary_bufs_sub .., binary_bufs_sub .., nullary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., binary_bufs_sub .., unary_bufs_sub .., reshape_bufs_sub .., unary_bufs_sub .., nullary_bufs_sub .., unary_bufs_sub .., binary_bufs_sub .., unary_bufs_sub .., unary_bufs_sub .., binary_bufs_sub .., unary_bufs_sub .., nullary_bufs_sub .., binary_bufs_sub .., binary_bufs_sub .., nullary_bufs_sub .., binary_bufs_sub .., binary_bufs_sub .., unary_bufs_sub .., unary_bufs_sub .., binary_bufs_sub .., unary_bufs_sub .., binary_bufs_sub ..⟩

variable (V : Valuation τ sig (Elt F))

theorem dist1_20 : upto line V 20 (no_index (Proc.devRef .tc main_v15)) = dists (V (Proc.devRef .tc main_arg3)) (V (Proc.devRef .tc main_arg4)) := by
  after_reads_simp
  try rfl

theorem dist1_22 : upto line V 22 (no_index (Proc.devRef .tc main_v15)) = dists (V (Proc.devRef .tc main_arg3)) (V (Proc.devRef .tc main_arg4)) := by
  after_reads_simp
  try rfl

theorem first_33 : upto line V 33 (no_index (Proc.devRef .tc main_v22)) = firstMin (dists (V (Proc.devRef .tc main_arg3)) (V (Proc.devRef .tc main_arg4))) := by
  after_reads_simp [dist1_20, dist1_22]
  try rfl

theorem first_35 : upto line V 35 (no_index (Proc.devRef .tc main_v22)) = firstMin (dists (V (Proc.devRef .tc main_arg3)) (V (Proc.devRef .tc main_arg4))) := by
  after_reads_simp [dist1_20, dist1_22]
  try rfl

theorem first_36 : upto line V 36 (no_index (Proc.devRef .tc main_v22)) = firstMin (dists (V (Proc.devRef .tc main_arg3)) (V (Proc.devRef .tc main_arg4))) := by
  after_reads_simp [dist1_20, dist1_22]
  try rfl

theorem wrap_45 : upto line V 45 (no_index (Proc.devRef .tc main_v25)) = wrapped (firstMin (dists (V (Proc.devRef .tc main_arg3)) (V (Proc.devRef .tc main_arg4)))) := by
  after_reads_simp [dist1_20, dist1_22, first_33, first_35, first_36]
  try rfl

theorem col_45 : upto line V 45 (no_index (Proc.devRef .tc main_v28)) = columnStart := by
  after_reads_simp [dist1_20, dist1_22, first_33, first_35, first_36, wrap_45]
  try rfl

theorem starts_at (h : ∀ k, ((![main_v25, main_v28] : Fin 2 → Ref sig .tc) k).ty = ⟨S_, .i32⟩) :
    indexContents ![main_v25, main_v28] ⟨S_, .i32⟩ h (upto line V 45) = starts (firstMin (dists (V (Proc.devRef .tc main_arg3)) (V (Proc.devRef .tc main_arg4)))) := by
  have h0 : indexContents ![main_v25, main_v28] ⟨S_, .i32⟩ h (upto line V 45) 0 = upto line V 45 (Proc.devRef .tc main_v25) := by
    generalize upto line V 45 = W
    rfl
  have h1 : indexContents ![main_v25, main_v28] ⟨S_, .i32⟩ h (upto line V 45) 1 = upto line V 45 (Proc.devRef .tc main_v28) := by
    generalize upto line V 45 = W
    rfl
  rw [wrap_45] at h0
  rw [col_45] at h1
  exact funext fun k => match k with
    | 0 => h0
    | 1 => h1

theorem loaded_46 : upto line V 46 (no_index (Proc.devRef .tc main_v29)) = Host.dynamicSlice S1x64 (V (Proc.devRef .tc main_arg4)) (fun k => (starts (firstMin (dists (V (Proc.devRef .tc main_arg3)) (V (Proc.devRef .tc main_arg4)))) k (Shape.Idx.first h_S_)).toInt) sliceFits_S65536x64_S1x64 := by
  after_reads_simp [unaryIndexed_result_read]
  rw [starts_at]
  try rfl

theorem row_48 : upto line V 48 (no_index (Proc.devRef .tc main_v31)) = rowPick (V (Proc.devRef .tc main_arg4)) (firstMin (dists (V (Proc.devRef .tc main_arg3)) (V (Proc.devRef .tc main_arg4)))) := by
  after_reads_simp [dist1_20, dist1_22, first_33, first_35, first_36, wrap_45, col_45, loaded_46]
  try rfl

theorem row_59 : upto line V 59 (no_index (Proc.devRef .tc main_v31)) = rowPick (V (Proc.devRef .tc main_arg4)) (firstMin (dists (V (Proc.devRef .tc main_arg3)) (V (Proc.devRef .tc main_arg4)))) := by
  after_reads_simp [dist1_20, dist1_22, first_33, first_35, first_36, wrap_45, col_45, loaded_46]
  try rfl

theorem dist2_68 : upto line V 68 (no_index (Proc.devRef .tc main_v47)) = dists (rowPick (V (Proc.devRef .tc main_arg4)) (firstMin (dists (V (Proc.devRef .tc main_arg3)) (V (Proc.devRef .tc main_arg4))))) (V (Proc.devRef .tc main_arg4)) := by
  after_reads_simp [dist1_20, dist1_22, first_33, first_35, first_36, wrap_45, col_45, loaded_46, row_48, row_59]
  try rfl

theorem order_71 : upto line V 71 (no_index (Proc.devRef .tc main_indices)) = order (dists (rowPick (V (Proc.devRef .tc main_arg4)) (firstMin (dists (V (Proc.devRef .tc main_arg3)) (V (Proc.devRef .tc main_arg4))))) (V (Proc.devRef .tc main_arg4))) := by
  after_reads_simp [dist1_20, dist1_22, first_33, first_35, first_36, wrap_45, col_45, loaded_46, row_48, row_59, dist2_68]
  try rfl

theorem pairs_75 : upto line V 75 (no_index (Proc.devRef .tc main_v50)) = second (order (dists (rowPick (V (Proc.devRef .tc main_arg4)) (firstMin (dists (V (Proc.devRef .tc main_arg3)) (V (Proc.devRef .tc main_arg4))))) (V (Proc.devRef .tc main_arg4)))) := by
  after_reads_simp [dist1_20, dist1_22, first_33, first_35, first_36, wrap_45, col_45, loaded_46, row_48, row_59, dist2_68, order_71]
  try rfl

theorem pairs_78 : upto line V 78 (no_index (Proc.devRef .tc main_v50)) = second (order (dists (rowPick (V (Proc.devRef .tc main_arg4)) (firstMin (dists (V (Proc.devRef .tc main_arg3)) (V (Proc.devRef .tc main_arg4))))) (V (Proc.devRef .tc main_arg4)))) := by
  after_reads_simp [dist1_20, dist1_22, first_33, first_35, first_36, wrap_45, col_45, loaded_46, row_48, row_59, dist2_68, order_71]
  try rfl

theorem pairs_79 : upto line V 79 (no_index (Proc.devRef .tc main_v50)) = second (order (dists (rowPick (V (Proc.devRef .tc main_arg4)) (firstMin (dists (V (Proc.devRef .tc main_arg3)) (V (Proc.devRef .tc main_arg4))))) (V (Proc.devRef .tc main_arg4)))) := by
  after_reads_simp [dist1_20, dist1_22, first_33, first_35, first_36, wrap_45, col_45, loaded_46, row_48, row_59, dist2_68, order_71]
  try rfl

theorem pair_81 : upto line V 81 (no_index (Proc.devRef .tc main_v56)) = broadcastInDim S2x1 ![0] bcast_S2_S2x1_0 (pair (order (dists (rowPick (V (Proc.devRef .tc main_arg4)) (firstMin (dists (V (Proc.devRef .tc main_arg3)) (V (Proc.devRef .tc main_arg4))))) (V (Proc.devRef .tc main_arg4))))) := by
  after_reads_simp [dist1_20, dist1_22, first_33, first_35, first_36, wrap_45, col_45, loaded_46, row_48, row_59, dist2_68, order_71, pairs_75, pairs_78, pairs_79]
  try rfl

theorem gap_84 : upto line V 84 (no_index (Proc.devRef .tc main_v59)) = gapRows (V (Proc.devRef .tc main_arg3)) (V (Proc.devRef .tc main_arg4)) (pair (order (dists (rowPick (V (Proc.devRef .tc main_arg4)) (firstMin (dists (V (Proc.devRef .tc main_arg3)) (V (Proc.devRef .tc main_arg4))))) (V (Proc.devRef .tc main_arg4))))) := by
  after_reads_simp [dist1_20, dist1_22, first_33, first_35, first_36, wrap_45, col_45, loaded_46, row_48, row_59, dist2_68, order_71, pairs_75, pairs_78, pairs_79, pair_81]
  try rfl

theorem gap2_95 : upto line V 95 (no_index (Proc.devRef .tc main_v60)) = gaps (V (Proc.devRef .tc main_arg3)) (V (Proc.devRef .tc main_arg4)) (pair (order (dists (rowPick (V (Proc.devRef .tc main_arg4)) (firstMin (dists (V (Proc.devRef .tc main_arg3)) (V (Proc.devRef .tc main_arg4))))) (V (Proc.devRef .tc main_arg4))))) := by
  after_reads_simp [dist1_20, dist1_22, first_33, first_35, first_36, wrap_45, col_45, loaded_46, row_48, row_59, dist2_68, order_71, pairs_75, pairs_78, pairs_79, pair_81, gap_84]
  try rfl

theorem out_score : after line V (Proc.devRef .tc main_v73) = score (V (Proc.devRef .tc main_arg2)) (gaps (V (Proc.devRef .tc main_arg3)) (V (Proc.devRef .tc main_arg4)) (pair (order (dists (rowPick (V (Proc.devRef .tc main_arg4)) (firstMin (dists (V (Proc.devRef .tc main_arg3)) (V (Proc.devRef .tc main_arg4))))) (V (Proc.devRef .tc main_arg4)))))) := by
  after_reads_simp [dist1_20, dist1_22, first_33, first_35, first_36, wrap_45, col_45, loaded_46, row_48, row_59, dist2_68, order_71, pairs_75, pairs_78, pairs_79, pair_81, gap_84, gap2_95]
  try rfl

theorem out_map : after line V (Proc.devRef .tc main_v77) = map (V (Proc.devRef .tc main_arg0)) (V (Proc.devRef .tc main_arg1)) := by
  after_reads_simp [dist1_20, dist1_22, first_33, first_35, first_36, wrap_45, col_45, loaded_46, row_48, row_59, dist2_68, order_71, pairs_75, pairs_78, pairs_79, pair_81, gap_84, gap2_95]
  try rfl

theorem out_arg0 : after line V (Proc.devRef .tc main_arg0) = (V (Proc.devRef .tc main_arg0)) := by
  after_reads_simp [dist1_20, dist1_22, first_33, first_35, first_36, wrap_45, col_45, loaded_46, row_48, row_59, dist2_68, order_71, pairs_75, pairs_78, pairs_79, pair_81, gap_84, gap2_95]
  try rfl

theorem out_arg1 : after line V (Proc.devRef .tc main_arg1) = (V (Proc.devRef .tc main_arg1)) := by
  after_reads_simp [dist1_20, dist1_22, first_33, first_35, first_36, wrap_45, col_45, loaded_46, row_48, row_59, dist2_68, order_71, pairs_75, pairs_78, pairs_79, pair_81, gap_84, gap2_95]
  try rfl

theorem out_arg2 : after line V (Proc.devRef .tc main_arg2) = (V (Proc.devRef .tc main_arg2)) := by
  after_reads_simp [dist1_20, dist1_22, first_33, first_35, first_36, wrap_45, col_45, loaded_46, row_48, row_59, dist2_68, order_71, pairs_75, pairs_78, pairs_79, pair_81, gap_84, gap2_95]
  try rfl

theorem out_arg3 : after line V (Proc.devRef .tc main_arg3) = (V (Proc.devRef .tc main_arg3)) := by
  after_reads_simp [dist1_20, dist1_22, first_33, first_35, first_36, wrap_45, col_45, loaded_46, row_48, row_59, dist2_68, order_71, pairs_75, pairs_78, pairs_79, pair_81, gap_84, gap2_95]
  try rfl

theorem out_arg4 : after line V (Proc.devRef .tc main_arg4) = (V (Proc.devRef .tc main_arg4)) := by
  after_reads_simp [dist1_20, dist1_22, first_33, first_35, first_36, wrap_45, col_45, loaded_46, row_48, row_59, dist2_68, order_71, pairs_75, pairs_78, pairs_79, pair_81, gap_84, gap2_95]
  try rfl

/-- The reference runs, and every buffer ends at what the line leaves in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after line (launchContents m c) (Proc.devRef .tc b) :=
  run_seq (by decide) (by decide) defs main (fun _ => line) main_line (fun _ => line_sub) m ρ

/-- The first result: the score from the distances of the test row to the neighbours of its nearest library row. -/
def outScore (q : FVec F S1x1 .f32) (x : FVec F S1x64 .f32) (y : FVec F S65536x64 .f32) : FVec F S1x1 .f32 :=
  score q (gaps x y (pair (order (dists (rowPick y (firstMin (dists x y))) y))))

/-- The reference runs: it returns those arrays of its arguments, and leaves the arguments as they were. -/
theorem returns (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = outScore (m ((c.tc : Thread nD τ).loc main_arg2)) (m ((c.tc : Thread nD τ).loc main_arg3)) (m ((c.tc : Thread nD τ).loc main_arg4))
      ∧ r.2.mem ((c.tc : Thread nD τ).loc main_v77) = map (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (run m ρ) fun _ h c =>
    ⟨(h c main_v73).trans (out_score (launchContents m c)), (h c main_v77).trans (out_map (launchContents m c)),
      (h c main_arg0).trans (out_arg0 (launchContents m c)), (h c main_arg1).trans (out_arg1 (launchContents m c)), (h c main_arg2).trans (out_arg2 (launchContents m c)), (h c main_arg3).trans (out_arg3 (launchContents m c)), (h c main_arg4).trans (out_arg4 (launchContents m c))⟩

/-- The reference leaves its arguments as they were, and no counter raised. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  θ_run_mono (run m ρ) fun r h =>
    ⟨fun c => ⟨(h c main_arg0).trans (out_arg0 _), (h c main_arg1).trans (out_arg1 _), (h c main_arg2).trans (out_arg2 _), (h c main_arg3).trans (out_arg3 _), (h c main_arg4).trans (out_arg4 _)⟩, sem_eq_zero_of_no_sems (by decide) _⟩

end Cert.Reference2Ideal.Hand

end
-- ==== Proof.Order2.lean ====
/-
  The three rows that a stable sort by a real value puts first, in the order of Model2: equal values keep their places, so the
  sort is by the value and then the row's number.
-/
module

public import proofs.«01_k».proof.Proof.Model2
public import Idealize.ShloMosaic.Lib.SortPrefix

@[expose] public section

noncomputable section

namespace Cert.Hand

open Idealize.ShloMosaic

/-- Two comparisons that agree wherever a later place is held against an earlier one sort an increasing list alike. -/
theorem stableSort_of_agree {n : ℕ} {R R' : Fin n → Fin n → Bool} (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_of_agree {n : ℕ} {R R' : Fin n → Fin n → Bool} (h : ∀ a b, a < b → R b a = R' b a) (i : Fin n) :
    sortedFrom R i = sortedFrom R' i := by
  have e : sortPositions n R = sortPositions n R' := stableSort_of_agree h _ (List.pairwise_lt_finRange n)
  unfold sortedFrom
  exact List.get_of_eq e _

/-- The order of Model2 as a comparison. -/
def before (e : Fin 65536 → ℝ) (k k' : Fin 65536) : Bool := decide (e k < e k') || (decide (e k = e k') && decide (k < k'))

theorem before_total (e : Fin 65536 → ℝ) : StrictTotalBefore (before e) :=
  StrictTotalBefore.of_key_then_position (fun a b : ℝ => decide (a < b)) e (by simp)
    (fun a b c h h' => by simp only [decide_eq_true_eq] at *; exact h.trans h')
    (fun a b => by simp only [decide_eq_true_eq]; exact lt_trichotomy a b)

theorem Next.not_before {e : Fin 65536 → ℝ} {S : Fin 65536 → Prop} {k : Fin 65536} (h : Next (fun J : Fin 65536 => J.val) e S k)
    {j : Fin 65536} (hj : ¬S j) : before e j k = false := by
  unfold before
  rcases h.2 j hj with h | ⟨h, h'⟩
  · rw [decide_eq_false (not_lt.2 h.le), decide_eq_false h.ne']
    rfl
  · rw [decide_eq_false (not_lt.2 h.le), decide_eq_false (fun hlt : j < k => by have hlt' : j.val < k.val := hlt; dsimp only at h'; omega)]
    simp

/-- A sort by the value alone puts the first three rows of the order first. -/
theorem Three.sorted {e : Fin 65536 → ℝ} {q0 q1 q2 : Fin 65536} (h : Three e q0 q1 q2) {R : Fin 65536 → Fin 65536 → Bool}
    (hR : ∀ k k', R k k' = decide (e k < e k')) (i : Fin 3) :
    sortedFrom R (i.castLE (by omega)) = (![q0, q1, q2] : Fin 3 → Fin 65536) i := by
  have n10 : q1 ≠ q0 := h.h1.1
  have n20 : q2 ≠ q0 := fun hh => h.h2.1 (Or.inl hh)
  have n21 : q2 ≠ q1 := fun hh => h.h2.1 (Or.inr hh)
  rw [sortedFrom_of_agree (R' := before e) fun a b hab => by
    rw [hR]
    unfold before
    rw [decide_eq_false (not_lt.2 hab.le : ¬b < a)]
    simp]
  refine (before_total e).sortedFrom_eq_of_prefix (by omega) ![q0, q1, q2] ?_ ?_ ?_ i
  · intro a b hab
    match a, b, hab with
    | 0, 0, _ => rfl
    | 1, 1, _ => rfl
    | 2, 2, _ => rfl
    | 0, 1, hab => exact absurd hab.symm n10
    | 1, 0, hab => exact absurd hab n10
    | 0, 2, hab => exact absurd hab.symm n20
    | 2, 0, hab => exact absurd hab n20
    | 1, 2, hab => exact absurd hab.symm n21
    | 2, 1, hab => exact absurd hab n21
  · intro a b hab
    match a, b, hab with
    | 0, 0, hab => exact absurd hab (by decide)
    | 1, 1, hab => exact absurd hab (by decide)
    | 2, 2, hab => exact absurd hab (by decide)
    | 0, 1, _ => exact h.h0.not_before id
    | 0, 2, _ => exact h.h0.not_before id
    | 1, 2, _ => exact h.h1.not_before n20
    | 1, 0, hab => exact absurd hab (by decide)
    | 2, 0, hab => exact absurd hab (by decide)
    | 2, 1, hab => exact absurd hab (by decide)
  · intro a p hp
    have p0 : p ≠ q0 := fun hh => hp 0 hh.symm
    have p1 : p ≠ q1 := fun hh => hp 1 hh.symm
    match a with
    | 0 => exact h.h0.not_before id
    | 1 => exact h.h1.not_before p0
    | 2 => exact h.h2.not_before fun hh => hh.elim p0 p1

/-- The order by the roots is the order by the values. -/
theorem Next.sqrt {ι : Type} {num : ι → ℕ} {e : ι → ℝ} {S : ι → Prop} {k : ι} (h : Next num e S k) (he : ∀ j, 0 ≤ e j) :
    Next num (fun j => Real.sqrt (e j)) S k :=
  ⟨h.1, fun j hj => (h.2 j hj).imp (fun h => Real.sqrt_lt_sqrt (he k) h) fun h => ⟨congrArg Real.sqrt h.1, h.2⟩⟩

theorem Three.sqrt {e : Fin 65536 → ℝ} {q0 q1 q2 : Fin 65536} (h : Three e q0 q1 q2) (he : ∀ j, 0 ≤ e j) :
    Three (fun j => Real.sqrt (e j)) q0 q1 q2 := ⟨h.h0.sqrt he, h.h1.sqrt he, h.h2.sqrt he⟩

/-- The place that comes first is unique. -/
theorem Next.unique {e : Fin 65536 → ℝ} {S : Fin 65536 → Prop} {k k' : Fin 65536}
    (h : Next (fun J : Fin 65536 => J.val) e S k) (h' : Next (fun J : Fin 65536 => J.val) e S k') : k = k' := by
  have a := h.2 k' h'.1
  have b := h'.2 k h.1
  rcases a with a | ⟨a, a'⟩ <;> rcases b with b | ⟨b, b'⟩
  · exact absurd (a.trans b) (lt_irrefl _)
  · exact absurd b a.ne'
  · exact absurd a b.ne'
  · exact Fin.ext (le_antisymm a' b')

end Cert.Hand

end
-- ==== Proof.RefVals2.lean ====
/-
  The values of the second reference's arrays over real arguments: the distances, the nearest library row, the three rows
  nearest to that, the two distances kept, and the score.
-/
module

public import proofs.«01_k».proof.Proof.RefRun2
public import proofs.«01_k».proof.Proof.Order2
public import Idealize.ShloMosaic.Lib.Pipeline.ValueKit
public import Idealize.ShloMosaic.Lib.DynamicIndex
public import Idealize.ShloMosaic.Lib.Routing.Ops

@[expose] public section

set_option maxRecDepth 16384

noncomputable section

namespace Cert.Reference2Ideal.Hand

open Idealize.ShloMosaic Cert.Reference2Ideal Cert.Reference2Ideal.Gen Cert.Hand

section
variable {v : Fin 64 → ℝ} {L : Fin 65536 → Fin 64 → ℝ} {x : FVec Ideal S1x64 .f32} {y : FVec Ideal S65536x64 .f32}
variable (hx : ∀ k, x (ix2 0 k) = ((v k : ℝ) : EReal)) (hy : ∀ J k, y (ix2 J k) = ((L J k : ℝ) : EReal))
include hx hy

theorem dists_eq (J : Fin 65536) : dists (F := Ideal) x y (ix2 0 J) = ((Real.sqrt (sq v (L J)) : ℝ) : EReal) := by
  have e : dists (F := Ideal) x y (ix2 0 J)
      = Ideal.sqrt (max ((∑ k, x (ix2 0 k) * x (ix2 0 k)) + (∑ k, y (ix2 J k) * y (ix2 J k))
          - Ideal.ofBits .f32 1073741824#32 * ∑ k, x (ix2 0 k) * y (ix2 J k)) 0) := by
    pointwise [dists]
  rw [e, c_two]
  simp only [hx, hy, ← EReal.coe_mul, coe_sum, ← EReal.coe_add, ← EReal.coe_sub, ← EReal.coe_zero, coe_max]
  exact sqrt_coe (sq_nonneg v (L J))

end

section
variable {d : FVec Ideal S1x65536 .f32} {e : Fin 65536 → ℝ} (hd : ∀ J, d (ix2 0 J) = ((e J : ℝ) : EReal))
include hd

theorem minDist_eq {p : Fin 65536} (hp : Next (fun J : Fin 65536 => J.val) e (fun _ => False) p) :
    minDist (F := Ideal) d ix0 = ((e p : ℝ) : EReal) := by
  have e' : minDist (F := Ideal) d ix0
      = Finset.univ.fold min (Ideal.ofBits .f32 2139095040#32) (fun x : Fin 1 × Fin 65536 => d (ix2 x.1 x.2)) := by
    pointwise [minDist]
  have hp' : Next (ι := Fin 1 × Fin 65536) (fun x => x.2.val) (fun x => e x.2) (fun _ => False) (0, p) := ⟨id, fun x _ => hp.2 _ id⟩
  rw [e', c_top]
  have hd' : ∀ x : Fin 1 × Fin 65536, d (ix2 x.1 x.2) = ((e x.2 : ℝ) : EReal) := fun x => by
    rw [Subsingleton.elim x.1 0]
    exact hd x.2
  simp only [hd']
  exact hp'.fold_all

theorem firstMin_eq {p : Fin 65536} (hp : Next (fun J : Fin 65536 => J.val) e (fun _ => False) p) :
    firstMin (F := Ideal) d = fun _ => BitVec.ofNat 32 p.val := by
  funext j
  rw [Subsingleton.elim j ix0]
  have e' : firstMin (F := Ideal) d ix0 = Finset.univ.fold IntOp.minsi 2147483647#32 (fun J : Fin 65536 =>
      if d (ix2 0 J) = minDist (F := Ideal) d ix0 then BitVec.ofNat 32 J.val else BitVec.ofNat 32 65536) := by
    pointwise [firstMin]
  rw [e', minDist_eq hd hp]
  simp only [hd]
  exact fold_first (fun J : Fin 65536 => J.val) 65536 (by norm_num) (fun J => J.isLt) (fun J => ((e J : ℝ) : EReal) = ((e p : ℝ) : EReal))
    hp.first_all

/-- The sort's keys are compared as the values are, the other way round. -/
theorem gt_eq (k k' : Fin 65536) :
    (FloatOps.cmpfTotal .gt (Host.negf (F := Ideal) d (ix2 0 k)) (Host.negf (F := Ideal) d (ix2 0 k')) == 1#1) = decide (e k < e k') := by
  have n : ∀ k, Host.negf (F := Ideal) d (ix2 0 k) = ((-(e k) : ℝ) : EReal) := fun k => by
    show -(d (ix2 0 k)) = _
    rw [hd, EReal.coe_neg]
  rw [n, n]
  show (BitVec.ofBool (decide (((-(e k') : ℝ) : EReal) < ((-(e k) : ℝ) : EReal))) == 1#1) = _
  by_cases h : e k < e k'
  · rw [decide_eq_true (EReal.coe_lt_coe_iff.2 (neg_lt_neg h)), decide_eq_true h]
    rfl
  · rw [decide_eq_false (fun hh => h (neg_lt_neg_iff.1 (EReal.coe_lt_coe_iff.1 hh))), decide_eq_false h]
    rfl

theorem order_eq {q0 q1 q2 : Fin 65536} (h : Three e q0 q1 q2) (i : Fin 3) :
    order (F := Ideal) d (ix2 0 i) = BitVec.ofNat 32 ((![q0, q1, q2] : Fin 3 → Fin 65536) i).val := by
  let B : Fin 65536 → Fin 65536 → Bool := fun k k' =>
    FloatOps.cmpfTotal .gt (Host.negf (F := Ideal) d (ix2 0 k)) (Host.negf (F := Ideal) d (ix2 0 k')) == 1#1
  have al : ∀ (j : S1x65536.Idx) (h : 1 < S1x65536.rank) (k : Fin 65536), j.along ⟨1, h⟩ k = ix2 0 k := fun j h k => funext fun a => by
    match a with
    | ⟨0, _⟩ => exact Subsingleton.elim (α := Fin 1) _ _
    | ⟨1, _⟩ => exact Function.update_self _ _ _
  have at1 : ∀ (j : S1x65536.Idx) (h : 1 < S1x65536.rank) (k : Fin 65536), (j.along ⟨1, h⟩ k ⟨1, h⟩).val = k.val :=
    fun j h k => congrArg (fun x : S1x65536.Idx => (x ⟨1, h⟩).val) (al j h k)
  have st : ∀ K : Fin 65536, (Host.sort2 S1x65536 1 (fun l r : EReal × BitVec 32 => FloatOps.cmpfTotal (F := Ideal) (φ := .f32) .gt l.1 r.1)
      (Host.negf (F := Ideal) d) (fun i => if hd : 1 < S1x65536.rank then iotaInDim S1x65536 32 ⟨1, hd⟩ i else 0#32)).2 (ix2 0 K)
      = BitVec.ofNat 32 (sortedFrom B K).val := fun K => by
    unfold Host.sort2
    rw [dif_pos (by decide)]
    dsimp only
    rw [dif_pos (by decide)]
    refine congrArg (BitVec.ofNat 32) ?_
    refine (at1 _ _ _).trans ?_
    refine congrArg (fun f => (sortedFrom f K).val) (funext fun k => funext fun k' => ?_)
    exact congrArg₂ (fun a b => FloatOps.cmpfTotal .gt (Host.negf (F := Ideal) d a) (Host.negf (F := Ideal) d b) == 1#1)
      (al _ _ k) (al _ _ k')
  have sl : ∀ X : IVec S1x65536 32, extractStridedSlice S1x3 (fun _ => 0) X sliceFits_S1x65536_S1x3 (ix2 0 i) = X (ix2 0 (i.castLE (by omega))) :=
    fun X => congrArg X (funext fun a => by
      match a with
      | ⟨0, _⟩ => rfl
      | ⟨1, _⟩ => exact Fin.ext (Nat.zero_add _))
  have e' : order (F := Ideal) d (ix2 0 i) = BitVec.ofNat 32 (sortedFrom B (i.castLE (by omega))).val := by
    unfold order Host.topK
    exact (sl _).trans (st _)
  rw [e', h.sorted (gt_eq hd)]

end

theorem starts_eq (p : Fin 65536) (a : Fin 2) (j : S_.Idx) :
    (starts (fun _ => BitVec.ofNat 32 p.val) a j).toInt = ((![p.val, 0] : Fin 2 → ℕ) a : ℤ) := by
  match a with
  | ⟨0, _⟩ => exact toInt_wrap_ofNat p.val (by have := p.isLt; omega)
  | ⟨1, _⟩ => exact toInt_wrap_ofNat (s := S_) (i := j) (d := constantI S_ 32 64#32) 0 (by norm_num)

theorem rowPick_eq (y : FVec Ideal S65536x64 .f32) (p : Fin 65536) (k : Fin 64) :
    rowPick (F := Ideal) y (fun _ => BitVec.ofNat 32 p.val) (ix2 0 k) = y (ix2 p k) := by
  have hs : S65536x64.Slices ![p.val, 0] S1x64 := ⟨rfl, fun a => by
    have := p.isLt
    match a with
    | ⟨0, _⟩ => show p.val + 1 ≤ 65536; omega
    | ⟨1, _⟩ => show 0 + 64 ≤ 64; omega⟩
  unfold rowPick
  rw [Host.dynamicSlice_eq_extractStridedSlice S1x64 y _ ![p.val, 0] sliceFits_S65536x64_S1x64 hs fun a => starts_eq p a _]
  pointwise

/-- The second and the third word, as row numbers. -/
theorem pair_eq {o : IVec S1x3 32} {q : Fin 3 → Fin 65536} (ho : ∀ i, o (ix2 0 i) = BitVec.ofNat 32 (q i).val) (i : Fin 2) :
    pair o (ix1 i) = BitVec.ofNat 32 (q i.succ).val := by
  have e : second o (ix1 i) = BitVec.ofNat 32 (q i.succ).val := by
    rw [← ho]
    match i with
    | 0 => pointwise [second]; rfl
    | 1 => pointwise [second]; rfl
  rw [← e]
  refine select_slt_zero_of_nonneg (second o) _ _ (ix1 i) ?_
  rw [e, toInt_ofNat_of_lt (by have := (q i.succ).isLt; omega)]
  omega

theorem gaps_eq {v : Fin 64 → ℝ} {L : Fin 65536 → Fin 64 → ℝ} {x : FVec Ideal S1x64 .f32} {y : FVec Ideal S65536x64 .f32}
    (hx : ∀ k, x (ix2 0 k) = ((v k : ℝ) : EReal)) (hy : ∀ J k, y (ix2 J k) = ((L J k : ℝ) : EReal)) {n : IVec S2 32} {i : Fin 2}
    {q : Fin 65536} (hn : n (ix1 i) = BitVec.ofNat 32 q.val) :
    gaps (F := Ideal) x y n (ix1 i) = Ideal.sqrt ((sq v (L q) : ℝ) : EReal) := by
  have g : ∀ k, Host.gather gather_S65536x64_S2x1_S2x64_1_0_n_n_0_1_164 y (broadcastInDim S2x1 ![0] bcast_S2_S2x1_0 n) (ix2 i k)
      = y (ix2 q k) := fun k =>
    Routing.gather_row gather_S65536x64_S2x1_S2x64_1_0_n_n_0_1_164 rfl rfl rfl rfl rfl y _ i k q (by rw [← hn]; pointwise) (by norm_num)
  have r : ∀ k, gapRows (F := Ideal) x y n (ix2 i k) = ((v k - L q k : ℝ) : EReal) := fun k => by
    rw [EReal.coe_sub, ← hx, ← hy, ← g k]
    pointwise [gapRows]
  have e : gaps (F := Ideal) x y n (ix1 i) = Ideal.sqrt (∑ k, gapRows (F := Ideal) x y n (ix2 i k) * gapRows (F := Ideal) x y n (ix2 i k)) := by
    pointwise [gaps]
  rw [e, sq_eq]
  simp only [r, ← EReal.coe_mul, coe_sum]

theorem score_eq (q : FVec Ideal S1x1 .f32) (g : FVec Ideal S2 .f32) :
    score (F := Ideal) q g (ix2 0 0) = weigh (q (ix2 0 0)) (g (ix1 0)) (g (ix1 1)) := by
  have e : score (F := Ideal) q g (ix2 0 0)
      = (Ideal.ofBits .f32 1065353216#32 - Ideal.div (Ideal.exp (Ideal.div (Ideal.sqrt (q (ix2 0 0))) eight))
          (∑ i : Fin 2, Ideal.exp (Ideal.div (g (ix1 i)) eight))) * Ideal.sqrt (q (ix2 0 0)) := by
    unfold eight
    pointwise [score]
  rw [e, c_one, Fin.sum_univ_two]
  rfl

theorem map_eq (x : FVec Ideal S56x56 .f32) (a : FVec Ideal S224x56 .f32) (i j : Fin 224) :
    map (F := Ideal) x a (ix2 i j) = ∑ l : Fin 56, (∑ k : Fin 56, a (ix2 i k) * Ideal.sqrt (x (ix2 k l))) * a (ix2 j l) := by
  pointwise [map]

/-- The score, from the nearest library row and the second and third rows nearest to that. -/
theorem outScore_eq {v : Fin 64 → ℝ} {L : Fin 65536 → Fin 64 → ℝ} {x : FVec Ideal S1x64 .f32} {y : FVec Ideal S65536x64 .f32}
    (hx : ∀ k, x (ix2 0 k) = ((v k : ℝ) : EReal)) (hy : ∀ J k, y (ix2 J k) = ((L J k : ℝ) : EReal)) {p q0 q1 q2 : Fin 65536}
    (hp : Next (fun J : Fin 65536 => J.val) (fun J => sq v (L J)) (fun _ => False) p)
    (hq : Three (fun J => sq (L p) (L J)) q0 q1 q2) (q : FVec Ideal S1x1 .f32) :
    outScore (F := Ideal) q x y (ix2 0 0)
      = weigh (q (ix2 0 0)) (Ideal.sqrt ((sq v (L q1) : ℝ) : EReal)) (Ideal.sqrt ((sq v (L q2) : ℝ) : EReal)) := by
  have hr : ∀ k, rowPick (F := Ideal) y (firstMin (dists x y)) (ix2 0 k) = ((L p k : ℝ) : EReal) := fun k => by
    rw [firstMin_eq (dists_eq hx hy) (hp.sqrt fun J => sq_nonneg _ _), rowPick_eq, hy]
  have ho := fun i => pair_eq (fun i => order_eq (dists_eq hr hy) (hq.sqrt fun J => sq_nonneg _ _) i) i
  unfold outScore
  rw [score_eq, gaps_eq hx hy (ho 0), gaps_eq hx hy (ho 1)]
  rfl

end Cert.Reference2Ideal.Hand

end
-- ==== Proof.Meet2.lean ====
/-
  The second kernel's two results and the second reference's are the same arrays over arguments that the precondition admits.
-/
module

public import proofs.«01_k».proof.Proof.Near2
public import proofs.«01_k».proof.Proof.Ends2
public import proofs.«01_k».proof.Proof.RefVals2
public import proofs.«01_k».proof.Proof.Finite
public import proofs.«01_k».proof.Proof.Gen.Pre_finite2

@[expose] public section

set_option maxRecDepth 16384

noncomputable section

namespace Cert.Hand

open Idealize.ShloMosaic

/-- What the precondition says of the test row and the library. -/
theorem reals2 (z : FVec Ideal Cert.Pre_finite2.S56x56 .f32) (a : FVec Ideal Cert.Pre_finite2.S224x56 .f32)
    (q : FVec Ideal Cert.Pre_finite2.S1x1 .f32) (x : FVec Ideal Cert.Pre_finite2.S1x64 .f32) (y : FVec Ideal Cert.Pre_finite2.S65536x64 .f32)
    (h : Cert.Pre_finite2.fn (F := Ideal) z a q x y = fun _ => 1#1) :
    ∃ (v : Fin 64 → ℝ) (L : Fin 65536 → Fin 64 → ℝ), (∀ k, x (ix2 0 k) = ((v k : ℝ) : EReal)) ∧ ∀ J k, y (ix2 J k) = ((L J k : ℝ) : EReal) := by
  have h0 := andi_one (congrFun h ix0)
  have hx : ∀ k, ∃ r : ℝ, x (ix2 0 k) = ↑r := by
    intro k
    have := h0.1
    dsimp only at this
    rw [Host.reduce_eq_fold] at this
    have := fold_andi _ _ this (ix2 0 k) (Finset.mem_filter.mpr ⟨Finset.mem_univ _, Subsingleton.elim _ _⟩)
    refine real_of_abs ?_
    pointwise at this
    exact this
  have hy : ∀ J k, ∃ r : ℝ, y (ix2 J k) = ↑r := by
    intro J k
    have := h0.2
    dsimp only at this
    rw [Host.reduce_eq_fold] at this
    have := fold_andi _ _ this (ix2 J k) (Finset.mem_filter.mpr ⟨Finset.mem_univ _, Subsingleton.elim _ _⟩)
    refine real_of_abs ?_
    pointwise at this
    exact this
  choose v hv using hx
  choose L hL using hy
  exact ⟨v, L, hv, hL⟩

/-- Two tables that agree entry by entry are equal. -/
theorem table_ext {a b : ℕ} {α : Type} {u v : (⟨2, ![a, b]⟩ : Shape).Idx → α} (h : ∀ i j, u (ix2 i j) = v (ix2 i j)) : u = v := by
  funext x
  obtain ⟨i, j, rfl⟩ : ∃ i j, x = ix2 i j := ⟨x 0, x 1, by funext a; fin_cases a <;> rfl⟩
  exact h i j

section
open Cert.Kernel2Ideal

/-- Over arguments that the precondition admits, the second kernel's results are the second reference's. -/
theorem meet2 (m : (ℓ : Loc nD τ sig) → Buf (Elt Ideal) ℓ) (c : Dev nD) (z : FVec Ideal S56x56 .f32) (a : FVec Ideal S224x56 .f32)
    (q : FVec Ideal S1x1 .f32) (x : FVec Ideal S1x64 .f32) (y : FVec Ideal S65536x64 .f32)
    (hz : m ((c.tc : Thread nD τ).loc main_arg0) = z) (ha : m ((c.tc : Thread nD τ).loc main_arg1) = a)
    (hq : m ((c.tc : Thread nD τ).loc main_arg2) = q) (hx : m ((c.tc : Thread nD τ).loc main_arg3) = x)
    (hy : m ((c.tc : Thread nD τ).loc main_arg4) = y) (h : Cert.Pre_finite2.fn (F := Ideal) z a q x y = fun _ => 1#1) :
    Cert.Reference2Ideal.Hand.outScore (F := Ideal) q x y = Cert.Kernel2Ideal.Hand.result m c
    ∧ Cert.Reference2Ideal.Hand.map (F := Ideal) z a = Cert.Kernel2Ideal.Hand.map m c := by
  obtain ⟨v, L, hv, hL⟩ := reals2 z a q x y h
  obtain ⟨p, q0, q1, q2, hp, h3, hr⟩ := Cert.Kernel2Ideal.Hand.result_coe m (c := c) (v := v) (L := L) (fun k => hx ▸ hv k)
    (fun J k => hy ▸ hL J k)
  refine ⟨table_ext fun i j => ?_, table_ext fun i j => ?_⟩
  · rw [Subsingleton.elim i 0, Subsingleton.elim j 0]
    rw [hq] at hr
    exact (Cert.Reference2Ideal.Hand.outScore_eq hv hL hp h3 q).trans hr.symm
  · exact (Cert.Reference2Ideal.Hand.map_eq z a i j).trans (Cert.Kernel2Ideal.Hand.map_at m c z a hz ha i j).symm

end

end Cert.Hand

end
-- ==== Proof.lean ====
/-
  The proof of `Cert.Claim`: the frames of both kernels and both references, and the two value claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Meet
public import proofs.«01_k».proof.Proof.Second2
public import proofs.«01_k».proof.Proof.Meet2
public import Idealize.ShloMosaic.Adequacy
public import Idealize.ShloMosaic.Init

@[expose] public section

noncomputable section

namespace Cert.Proof

open Idealize.ShloMosaic Idealize.SL.Sem Cert.Kernel

/-- Over every launch that the precondition admits, the kernel and the reference end with the same three arrays. -/
theorem algebraic : Cert.algebraic_KernelIdeal_ReferenceIdeal_pre_finite := by
  intro m g m' g' hpre hargs
  refine ⟨Cert.KernelIdeal.Value.G2 m, Cert.KernelIdeal.Value.G3 m, Cert.KernelIdeal.Value.G4 m, Cert.KernelIdeal.Value.run m g, ?_⟩
  refine θ_run_mono (Cert.ReferenceIdeal.Hand.returns m' g') fun r h c => ?_
  obtain ⟨e0, e1, e2, e3, e4⟩ := h c
  rw [(hargs c).1, (hargs c).2] at e0 e1 e2
  obtain ⟨k0, k1, k2⟩ := Cert.Hand.meet m c _ _ rfl rfl (hpre c)
  exact ⟨e0.trans k0, e1.trans k1, e2.trans k2, e3, e4⟩

/-- Over every launch that the precondition admits, the second kernel and the second reference end with the same score and map. -/
theorem algebraic2 : Cert.algebraic_Kernel2Ideal_Reference2Ideal_pre_finite2 := by
  intro m g m' g' hpre hargs
  refine ⟨Cert.Kernel2Ideal.Hand.result m, Cert.Kernel2Ideal.Hand.map m, Cert.Kernel2Ideal.Hand.ends m g, ?_⟩
  refine θ_run_mono (Cert.Reference2Ideal.Hand.returns m' g') fun r h c => ?_
  obtain ⟨e0, e1, kept⟩ := h c
  obtain ⟨h0, h1, h2, h3, h4⟩ := hargs c
  rw [h2, h3, h4] at e0
  rw [h0, h1] at e1
  obtain ⟨k0, k1⟩ := Cert.Hand.meet2 m c _ _ _ _ _ rfl rfl rfl rfl rfl (hpre c)
  exact ⟨e0.trans k0, e1.trans k1, kept⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Hand.frame m ρ, fun m ρ _ => Cert.ReferenceIdeal.Hand.frame m ρ,
  Cert.Kernel2.Hand.frame2, fun m ρ _ => Cert.Kernel2Ideal.Hand.frame2 m ρ, fun m ρ _ => Cert.Kernel2Ideal.Hand.frame2 m ρ,
  fun m ρ _ => Cert.Reference2Ideal.Hand.frame m ρ, fun m ρ _ => Cert.Reference2Ideal.Hand.frame m ρ,
  trivial, algebraic, trivial, algebraic2⟩

end Cert.Proof

end
